-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S8x2048x512 : Shape := ⟨3, ![8, 2048, 512]⟩
abbrev S8x2048 : Shape := ⟨2, ![8, 2048]⟩
abbrev S8x2048x256 : Shape := ⟨3, ![8, 2048, 256]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x32 : Shape := ⟨2, ![128, 32]⟩
abbrev S512x256 : Shape := ⟨2, ![512, 256]⟩
abbrev S256 : Shape := ⟨1, ![256]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_arg8 : FVec F S32 .f32) (main_arg9 : FVec F S32x32 .f32) (main_arg11 : FVec F S32x128 .f32) (main_v30 : IVec S_ 1) (main_v33 : IVec S32x32 1) : IVec S_ 1 :=
  let main_c_12 : IVec S_ 1 := constantI S_ 1 1#1
  let main_v34 : IVec S_ 1 := (fun x v => Host.reduce IntOp.andi x v reducesTo_S32x32_S_d0_1 h_S_) main_v33 main_c_12
  let main_v35 : IVec S_ 1 := andi main_v30 main_v34
  let main_v36 : FVec F S32 .f32 := Host.absf main_arg8
  let main_cst_13 : FVec F S_ .f32 := constant S_ .f32 0x7F800000#32
  let main_v37 : FVec F S32 .f32 := broadcastInDim S32 ![] bcast_S_S32 main_cst_13
  let main_v38 : IVec S32 1 := cmpf .olt main_v36 main_v37
  let main_c_14 : IVec S_ 1 := constantI S_ 1 1#1
  let main_v39 : IVec S_ 1 := (fun x v => Host.reduce IntOp.andi x v reducesTo_S32_S_d0 h_S_) main_v38 main_c_14
  let main_v40 : IVec S_ 1 := andi main_v35 main_v39
  let main_v41 : FVec F S32x32 .f32 := Host.absf main_arg9
  let main_cst_15 : FVec F S_ .f32 := constant S_ .f32 0x7F800000#32
  let main_v42 : FVec F S32x32 .f32 := broadcastInDim S32x32 ![] bcast_S_S32x32 main_cst_15
  let main_v43 : IVec S32x32 1 := cmpf .olt main_v41 main_v42
  let main_c_16 : IVec S_ 1 := constantI S_ 1 1#1
  let main_v44 : IVec S_ 1 := (fun x v => Host.reduce IntOp.andi x v reducesTo_S32x32_S_d0_1 h_S_) main_v43 main_c_16
  let main_v45 : IVec S_ 1 := andi main_v40 main_v44
  let main_v46 : FVec F S32x128 .f32 := Host.absf main_arg11
  let main_cst_17 : FVec F S_ .f32 := constant S_ .f32 0x7F800000#32
  let main_v47 : FVec F S32x128 .f32 := broadcastInDim S32x128 ![] bcast_S_S32x128 main_cst_17
  let main_v48 : IVec S32x128 1 := cmpf .olt main_v46 main_v47
  let main_c_18 : IVec S_ 1 := constantI S_ 1 1#1
  let main_v49 : IVec S_ 1 := (fun x v => Host.reduce IntOp.andi x v reducesTo_S32x128_S_d0_1 h_S_) main_v48 main_c_18
  let main_v50 : IVec S_ 1 := andi main_v45 main_v49
  main_v50

def fn_part1 {F : FTy → Type} [FloatOps F] (main_arg5 : FVec F S32x32 .f32) (main_arg6 : FVec F S32 .f32) (main_arg7 : FVec F S32x32 .f32) (main_arg8 : FVec F S32 .f32) (main_arg9 : FVec F S32x32 .f32) (main_arg11 : FVec F S32x128 .f32) (main_v15 : IVec S_ 1) (main_v16 : FVec F S32 .f32) : IVec S_ 1 :=
  let main_cst_5 : FVec F S_ .f32 := constant S_ .f32 0x7F800000#32
  let main_v17 : FVec F S32 .f32 := broadcastInDim S32 ![] bcast_S_S32 main_cst_5
  let main_v18 : IVec S32 1 := cmpf .olt main_v16 main_v17
  let main_c_6 : IVec S_ 1 := constantI S_ 1 1#1
  let main_v19 : IVec S_ 1 := (fun x v => Host.reduce IntOp.andi x v reducesTo_S32_S_d0 h_S_) main_v18 main_c_6
  let main_v20 : IVec S_ 1 := andi main_v15 main_v19
  let main_v21 : FVec F S32x32 .f32 := Host.absf main_arg5
  let main_cst_7 : FVec F S_ .f32 := constant S_ .f32 0x7F800000#32
  let main_v22 : FVec F S32x32 .f32 := broadcastInDim S32x32 ![] bcast_S_S32x32 main_cst_7
  let main_v23 : IVec S32x32 1 := cmpf .olt main_v21 main_v22
  let main_c_8 : IVec S_ 1 := constantI S_ 1 1#1
  let main_v24 : IVec S_ 1 := (fun x v => Host.reduce IntOp.andi x v reducesTo_S32x32_S_d0_1 h_S_) main_v23 main_c_8
  let main_v25 : IVec S_ 1 := andi main_v20 main_v24
  let main_v26 : FVec F S32 .f32 := Host.absf main_arg6
  let main_cst_9 : FVec F S_ .f32 := constant S_ .f32 0x7F800000#32
  let main_v27 : FVec F S32 .f32 := broadcastInDim S32 ![] bcast_S_S32 main_cst_9
  let main_v28 : IVec S32 1 := cmpf .olt main_v26 main_v27
  let main_c_10 : IVec S_ 1 := constantI S_ 1 1#1
  let main_v29 : IVec S_ 1 := (fun x v => Host.reduce IntOp.andi x v reducesTo_S32_S_d0 h_S_) main_v28 main_c_10
  let main_v30 : IVec S_ 1 := andi main_v25 main_v29
  let main_v31 : FVec F S32x32 .f32 := Host.absf main_arg7
  let main_cst_11 : FVec F S_ .f32 := constant S_ .f32 0x7F800000#32
  let main_v32 : FVec F S32x32 .f32 := broadcastInDim S32x32 ![] bcast_S_S32x32 main_cst_11
  let main_v33 : IVec S32x32 1 := cmpf .olt main_v31 main_v32
  fn_part2 (F := F) main_arg8 main_arg9 main_arg11 main_v30 main_v33

def fn {F : FTy → Type} [FloatOps F] (main_arg0 : FVec F S8x2048x512 .f32) (main_arg1 : IVec S8x2048 32) (main_arg2 : FVec F S8x2048x256 .f32) (main_arg3 : FVec F S32x32 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S32x128 .f32) (main_arg12 : FVec F S128 .f32) (main_arg13 : FVec F S128x32 .f32) (main_arg14 : FVec F S32 .f32) (main_arg15 : FVec F S512x256 .f32) (main_arg16 : FVec F S256 .f32) : IVec S_ 1 :=
  let main_c : IVec S_ 32 := constantI S_ 32 0#32
  let main_v0 : IVec S8x2048 32 := broadcastInDim S8x2048 ![] bcast_S_S8x2048 main_c
  let main_v1 : IVec S8x2048 1 := cmpi .eq main_arg1 main_v0
  let main_c_0 : IVec S_ 32 := constantI S_ 32 1#32
  let main_v2 : IVec S8x2048 32 := broadcastInDim S8x2048 ![] bcast_S_S8x2048 main_c_0
  let main_v3 : IVec S8x2048 1 := cmpi .eq main_arg1 main_v2
  let main_v4 : IVec S8x2048 1 := ori main_v1 main_v3
  let main_c_1 : IVec S_ 1 := constantI S_ 1 1#1
  let main_v5 : IVec S_ 1 := (fun x v => Host.reduce IntOp.andi x v reducesTo_S8x2048_S_d0_1 h_S_) main_v4 main_c_1
  let main_v6 : FVec F S8x2048x512 .f32 := Host.absf main_arg0
  let main_cst : FVec F S_ .f32 := constant S_ .f32 0x7F800000#32
  let main_v7 : FVec F S8x2048x512 .f32 := broadcastInDim S8x2048x512 ![] bcast_S_S8x2048x512 main_cst
  let main_v8 : IVec S8x2048x512 1 := cmpf .olt main_v6 main_v7
  let main_c_2 : IVec S_ 1 := constantI S_ 1 1#1
  let main_v9 : IVec S_ 1 := (fun x v => Host.reduce IntOp.andi x v reducesTo_S8x2048x512_S_d0_1_2 h_S_) main_v8 main_c_2
  let main_v10 : IVec S_ 1 := andi main_v5 main_v9
  let main_v11 : FVec F S32x32 .f32 := Host.absf main_arg3
  let main_cst_3 : FVec F S_ .f32 := constant S_ .f32 0x7F800000#32
  let main_v12 : FVec F S32x32 .f32 := broadcastInDim S32x32 ![] bcast_S_S32x32 main_cst_3
  let main_v13 : IVec S32x32 1 := cmpf .olt main_v11 main_v12
  let main_c_4 : IVec S_ 1 := constantI S_ 1 1#1
  let main_v14 : IVec S_ 1 := (fun x v => Host.reduce IntOp.andi x v reducesTo_S32x32_S_d0_1 h_S_) main_v13 main_c_4
  let main_v15 : IVec S_ 1 := andi main_v10 main_v14
  let main_v16 : FVec F S32 .f32 := Host.absf main_arg4
  fn_part1 (F := F) main_arg5 main_arg6 main_arg7 main_arg8 main_arg9 main_arg11 main_v15 main_v16
-- ==== Kernel.lean ====
abbrev S8x2048x512 : Shape := ⟨3, ![8, 2048, 512]⟩
abbrev S8x2048 : Shape := ⟨2, ![8, 2048]⟩
abbrev S8x2048x256 : Shape := ⟨3, ![8, 2048, 256]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x32 : Shape := ⟨2, ![128, 32]⟩
abbrev S512x256 : Shape := ⟨2, ![512, 256]⟩
abbrev S256 : Shape := ⟨1, ![256]⟩
abbrev S16384x32x16 : Shape := ⟨3, ![16384, 32, 16]⟩
abbrev S16384x16x32 : Shape := ⟨3, ![16384, 16, 32]⟩
abbrev S2048x128x32 : Shape := ⟨3, ![2048, 128, 32]⟩
abbrev S16 : Shape := ⟨1, ![16]⟩
abbrev S16x1 : Shape := ⟨2, ![16, 1]⟩
abbrev S1x32 : Shape := ⟨2, ![1, 32]⟩
abbrev S_ : Shape := ⟨0, ![]⟩
abbrev S16x32 : Shape := ⟨2, ![16, 32]⟩
abbrev S1x16x1x32 : Shape := ⟨4, ![1, 16, 1, 32]⟩
abbrev S8x16x1x32 : Shape := ⟨4, ![8, 16, 1, 32]⟩
abbrev S1x128 : Shape := ⟨2, ![1, 128]⟩
abbrev S32x16x256 : Shape := ⟨3, ![32, 16, 256]⟩
abbrev S16x32x256 : Shape := ⟨3, ![16, 32, 256]⟩
abbrev S1x256 : Shape := ⟨2, ![1, 256]⟩
abbrev S16384x256 : Shape := ⟨2, ![16384, 256]⟩
abbrev S1x1 : Shape := ⟨2, ![1, 1]⟩
abbrev S2048 : Shape := ⟨1, ![2048]⟩
abbrev S2048x1 : Shape := ⟨2, ![2048, 1]⟩
abbrev S2048x256 : Shape := ⟨2, ![2048, 256]⟩
abbrev S8x2048x1 : Shape := ⟨3, ![8, 2048, 1]⟩
abbrev S64x128x32 : Shape := ⟨3, ![64, 128, 32]⟩
abbrev S1x128x32 : Shape := ⟨3, ![1, 128, 32]⟩
abbrev S64x128x128 : Shape := ⟨3, ![64, 128, 128]⟩
abbrev S128x128 : Shape := ⟨2, ![128, 128]⟩
abbrev S1x128x128 : Shape := ⟨3, ![1, 128, 128]⟩
abbrev S64x128 : Shape := ⟨2, ![64, 128]⟩
abbrev S64x128x1 : Shape := ⟨3, ![64, 128, 1]⟩
abbrev S1x1x128 : Shape := ⟨3, ![1, 1, 128]⟩
abbrev S1x1x32 : Shape := ⟨3, ![1, 1, 32]⟩
abbrev S512x16x32 : Shape := ⟨3, ![512, 16, 32]⟩
abbrev S512x1x32 : Shape := ⟨3, ![512, 1, 32]⟩
abbrev S512x32 : Shape := ⟨2, ![512, 32]⟩
abbrev S512x512 : Shape := ⟨2, ![512, 512]⟩
abbrev S1x512x256 : Shape := ⟨3, ![1, 512, 256]⟩
abbrev S1 : Shape := ⟨1, ![1]⟩
abbrev S1x1x1 : Shape := ⟨3, ![1, 1, 1]⟩
abbrev S1x2048x256 : Shape := ⟨3, ![1, 2048, 256]⟩
abbrev S1x2048x1 : Shape := ⟨3, ![1, 2048, 1]⟩
abbrev S1x128x1 : Shape := ⟨3, ![1, 128, 1]⟩
abbrev S128x1 : Shape := ⟨2, ![128, 1]⟩
abbrev S1x128x256 : Shape := ⟨3, ![1, 128, 256]⟩
abbrev S128x256 : Shape := ⟨2, ![128, 256]⟩

abbrev nBuf : Space → Nat
  | .hbm => 195
  | .vmem => 29
  | .smem => 0
  | _ => 0

abbrev hbmTy0_0 (i : Nat) : BufTy := match i % 128 with
  | 0 => ⟨S8x2048x512, .f32⟩
  | 1 => ⟨S8x2048, .i32⟩
  | 2 => ⟨S8x2048x256, .f32⟩
  | 3 => ⟨S32x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x128, .f32⟩
  | 12 => ⟨S128, .f32⟩
  | 13 => ⟨S128x32, .f32⟩
  | 14 => ⟨S32, .f32⟩
  | 15 => ⟨S512x256, .f32⟩
  | 16 => ⟨S256, .f32⟩
  | 17 => ⟨S16384x32x16, .f32⟩
  | 18 => ⟨S16384x16x32, .f32⟩
  | 19 => ⟨S2048x128x32, .f32⟩
  | 20 => ⟨S2048x128x32, .bf16⟩
  | 21 => ⟨S16, .f32⟩
  | 22 => ⟨S16x1, .f32⟩
  | 23 => ⟨S32, .f32⟩
  | 24 => ⟨S1x32, .f32⟩
  | 25 => ⟨S_, .f32⟩
  | 26 => ⟨S1x32, .f32⟩
  | 27 => ⟨S1x32, .f32⟩
  | 28 => ⟨S1x32, .f32⟩
  | 29 => ⟨S_, .f32⟩
  | 30 => ⟨S1x32, .f32⟩
  | 31 => ⟨S1x32, .f32⟩
  | 32 => ⟨S_, .f32⟩
  | 33 => ⟨S1x32, .f32⟩
  | 34 => ⟨S1x32, .f32⟩
  | 35 => ⟨S_, .f32⟩
  | 36 => ⟨S1x32, .f32⟩
  | 37 => ⟨S1x32, .f32⟩
  | 38 => ⟨S16x32, .f32⟩
  | 39 => ⟨S16x32, .f32⟩
  | 40 => ⟨S16x32, .f32⟩
  | 41 => ⟨S32, .i32⟩
  | 42 => ⟨S1x32, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1x32, .i32⟩
  | 50 => ⟨S1x32, .i32⟩
  | 51 => ⟨S_, .i32⟩
  | 52 => ⟨S1x32, .i32⟩
  | 53 => ⟨S1x32, .i1⟩
  | 54 => ⟨S_, .i32⟩
  | 55 => ⟨S1x32, .i32⟩
  | 56 => ⟨S1x32, .i1⟩
  | 57 => ⟨S_, .i32⟩
  | 58 => ⟨S_, .i1⟩
  | 59 => ⟨S1x32, .i1⟩
  | 60 => ⟨S1x32, .i1⟩
  | 61 => ⟨S1x32, .i1⟩
  | 62 => ⟨S1x32, .i32⟩
  | 63 => ⟨S1x32, .i32⟩
  | 64 => ⟨S1x32, .i32⟩
  | 65 => ⟨S_, .i32⟩
  | 66 => ⟨S1x32, .i32⟩
  | 67 => ⟨S1x32, .i1⟩
  | 68 => ⟨S16x32, .f32⟩
  | 69 => ⟨S16x32, .f32⟩
  | 70 => ⟨S16x32, .i1⟩
  | 71 => ⟨S16x32, .f32⟩
  | 72 => ⟨S_, .f32⟩
  | 73 => ⟨S16x32, .f32⟩
  | 74 => ⟨S16x32, .f32⟩
  | 75 => ⟨S_, .f32⟩
  | 76 => ⟨S16x32, .f32⟩
  | 77 => ⟨S16x32, .f32⟩
  | 78 => ⟨S_, .f32⟩
  | 79 => ⟨S_, .f32⟩
  | 80 => ⟨S_, .f32⟩
  | 81 => ⟨S_, .f32⟩
  | 82 => ⟨S32x32, .f32⟩
  | 83 => ⟨S32x32, .f32⟩
  | 84 => ⟨S32x32, .bf16⟩
  | 85 => ⟨S16x32, .f32⟩
  | 86 => ⟨S1x32, .f32⟩
  | 87 => ⟨S16x32, .f32⟩
  | 88 => ⟨S16x32, .f32⟩
  | 89 => ⟨S16x32, .f32⟩
  | 90 => ⟨S16x32, .f32⟩
  | 91 => ⟨S1x16x1x32, .f32⟩
  | 92 => ⟨S8x16x1x32, .f32⟩
  | 93 => ⟨S128x32, .f32⟩
  | 94 => ⟨S16x32, .f32⟩
  | 95 => ⟨S1x32, .f32⟩
  | 96 => ⟨S16x32, .f32⟩
  | 97 => ⟨S16x32, .f32⟩
  | 98 => ⟨S1x16x1x32, .f32⟩
  | 99 => ⟨S8x16x1x32, .f32⟩
  | 100 => ⟨S128x32, .f32⟩
  | 101 => ⟨S16x32, .f32⟩
  | 102 => ⟨S1x32, .f32⟩
  | 103 => ⟨S16x32, .f32⟩
  | 104 => ⟨S16x32, .f32⟩
  | 105 => ⟨S1x16x1x32, .f32⟩
  | 106 => ⟨S8x16x1x32, .f32⟩
  | 107 => ⟨S128x32, .f32⟩
  | 108 => ⟨S32x128, .f32⟩
  | 109 => ⟨S32x128, .bf16⟩
  | 110 => ⟨S128, .f32⟩
  | 111 => ⟨S128, .f32⟩
  | 112 => ⟨S1x128, .f32⟩
  | 113 => ⟨S32x16x256, .f32⟩
  | 114 => ⟨S16x32x256, .f32⟩
  | 115 => ⟨S512x256, .f32⟩
  | 116 => ⟨S512x256, .bf16⟩
  | 117 => ⟨S32x32, .bf16⟩
  | 118 => ⟨S32x32, .bf16⟩
  | 119 => ⟨S128x32, .bf16⟩
  | 120 => ⟨S1x32, .f32⟩
  | 121 => ⟨S1x256, .f32⟩
  | 122 => ⟨S16384x256, .bf16⟩
  | 123 => ⟨S1x1, .f32⟩
  | 124 => ⟨S1x1, .f32⟩
  | 125 => ⟨S_, .f32⟩
  | 126 => ⟨S_, .f32⟩
  | 127 => ⟨S_, .f32⟩
  | _ => ⟨S8x2048x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1x1, .f32⟩
  | 11 => ⟨S1x1, .f32⟩
  | 12 => ⟨S2048, .f32⟩
  | 13 => ⟨S2048x1, .f32⟩
  | 14 => ⟨S256, .f32⟩
  | 15 => ⟨S1x256, .f32⟩
  | 16 => ⟨S_, .f32⟩
  | 17 => ⟨S1x256, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S_, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S2048x256, .f32⟩
  | 30 => ⟨S2048x256, .f32⟩
  | 31 => ⟨S2048x256, .f32⟩
  | 32 => ⟨S256, .i32⟩
  | 33 => ⟨S1x256, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S1x256, .i32⟩
  | 41 => ⟨S1x256, .i32⟩
  | 42 => ⟨S_, .i32⟩
  | 43 => ⟨S1x256, .i32⟩
  | 44 => ⟨S1x256, .i1⟩
  | 45 => ⟨S_, .i32⟩
  | 46 => ⟨S1x256, .i32⟩
  | 47 => ⟨S1x256, .i1⟩
  | 48 => ⟨S_, .i32⟩
  | 49 => ⟨S_, .i1⟩
  | 50 => ⟨S1x256, .i1⟩
  | 51 => ⟨S1x256, .i1⟩
  | 52 => ⟨S1x256, .i1⟩
  | 53 => ⟨S1x256, .i32⟩
  | 54 => ⟨S1x256, .i32⟩
  | 55 => ⟨S1x256, .i32⟩
  | 56 => ⟨S_, .i32⟩
  | 57 => ⟨S1x256, .i32⟩
  | 58 => ⟨S1x256, .i1⟩
  | 59 => ⟨S2048x256, .f32⟩
  | 60 => ⟨S2048x256, .f32⟩
  | 61 => ⟨S2048x256, .i1⟩
  | 62 => ⟨S2048x256, .f32⟩
  | 63 => ⟨S8x2048, .f32⟩
  | 64 => ⟨S8x2048x1, .f32⟩
  | 65 => ⟨S8x2048x256, .bf16⟩
  | 66 => ⟨S8x2048x256, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | .local _ .vmem, ⟨0, _⟩ => ⟨S64x128x32, .bf16⟩
  | .local _ .vmem, ⟨1, _⟩ => ⟨S64x128x32, .bf16⟩
  | .local _ .vmem, ⟨2, _⟩ => ⟨S32x32, .bf16⟩
  | .local _ .vmem, ⟨3, _⟩ => ⟨S32x32, .bf16⟩
  | .local _ .vmem, ⟨4, _⟩ => ⟨S32x32, .bf16⟩
  | .local _ .vmem, ⟨5, _⟩ => ⟨S32x128, .bf16⟩
  | .local _ .vmem, ⟨6, _⟩ => ⟨S128x32, .bf16⟩
  | .local _ .vmem, ⟨7, _⟩ => ⟨S512x256, .bf16⟩
  | .local _ .vmem, ⟨8, _⟩ => ⟨S128x32, .f32⟩
  | .local _ .vmem, ⟨9, _⟩ => ⟨S128x32, .f32⟩
  | .local _ .vmem, ⟨10, _⟩ => ⟨S128x32, .f32⟩
  | .local _ .vmem, ⟨11, _⟩ => ⟨S1x128, .f32⟩
  | .local _ .vmem, ⟨12, _⟩ => ⟨S1x32, .f32⟩
  | .local _ .vmem, ⟨13, _⟩ => ⟨S1x256, .f32⟩
  | .local _ .vmem, ⟨14, _⟩ => ⟨S512x256, .bf16⟩
  | .local _ .vmem, ⟨15, _⟩ => ⟨S512x256, .bf16⟩
  | .local _ .vmem, ⟨16, _⟩ => ⟨S1x1, .f32⟩
  | .local _ .vmem, ⟨17, _⟩ => ⟨S1x1, .f32⟩
  | .local _ .vmem, ⟨18, _⟩ => ⟨S1x2048x256, .bf16⟩
  | .local _ .vmem, ⟨19, _⟩ => ⟨S1x2048x256, .bf16⟩
  | .local _ .vmem, ⟨20, _⟩ => ⟨S1x2048x256, .f32⟩
  | .local _ .vmem, ⟨21, _⟩ => ⟨S1x2048x256, .f32⟩
  | .local _ .vmem, ⟨22, _⟩ => ⟨S1x2048x1, .f32⟩
  | .local _ .vmem, ⟨23, _⟩ => ⟨S1x2048x1, .f32⟩
  | .local _ .vmem, ⟨24, _⟩ => ⟨S2048x256, .f32⟩
  | .local _ .vmem, ⟨25, _⟩ => ⟨S1x1, .f32⟩
  | .local _ .vmem, ⟨26, _⟩ => ⟨S1x1, .f32⟩
  | .local _ .vmem, ⟨27, _⟩ => ⟨S1x2048x256, .f32⟩
  | .local _ .vmem, ⟨28, _⟩ => ⟨S1x2048x256, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_cst_0 : Ref sig .tc := ⟨.hbm, 29, rfl⟩
abbrev main_call0_v11 : Ref sig .tc := ⟨.hbm, 30, rfl⟩
abbrev main_call0_v12 : Ref sig .tc := ⟨.hbm, 31, rfl⟩
abbrev main_call0_cst_1 : Ref sig .tc := ⟨.hbm, 32, rfl⟩
abbrev main_call0_v13 : Ref sig .tc := ⟨.hbm, 33, rfl⟩
abbrev main_call0_v14 : Ref sig .tc := ⟨.hbm, 34, rfl⟩
abbrev main_call0_cst_2 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_c : Ref sig .tc := ⟨.hbm, 43, rfl⟩
abbrev main_call0_call0_v0 : Ref sig .tc := ⟨.hbm, 44, rfl⟩
abbrev main_call0_call0_c : Ref sig .tc := ⟨.hbm, 45, rfl⟩
abbrev main_call0_call0_v1 : Ref sig .tc := ⟨.hbm, 46, rfl⟩
abbrev main_call0_call0_c_0 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_c_1 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_2 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_3 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_v14 : Ref sig .tc := ⟨.hbm, 63, rfl⟩
abbrev main_call0_v22 : Ref sig .tc := ⟨.hbm, 64, rfl⟩
abbrev main_call0_c_3 : Ref sig .tc := ⟨.hbm, 65, rfl⟩
abbrev main_call0_v23 : Ref sig .tc := ⟨.hbm, 66, rfl⟩
abbrev main_call0_v24 : Ref sig .tc := ⟨.hbm, 67, rfl⟩
abbrev main_call0_v25 : Ref sig .tc := ⟨.hbm, 68, rfl⟩
abbrev main_call0_v26 : Ref sig .tc := ⟨.hbm, 69, rfl⟩
abbrev main_call0_call1_v0 : Ref sig .tc := ⟨.hbm, 70, rfl⟩
abbrev main_call0_v27 : Ref sig .tc := ⟨.hbm, 71, rfl⟩
abbrev main_call0_cst_4 : Ref sig .tc := ⟨.hbm, 72, rfl⟩
abbrev main_call0_v28 : Ref sig .tc := ⟨.hbm, 73, rfl⟩
abbrev main_call0_v29 : Ref sig .tc := ⟨.hbm, 74, rfl⟩
abbrev main_call0_cst_5 : Ref sig .tc := ⟨.hbm, 75, rfl⟩
abbrev main_call0_v30 : Ref sig .tc := ⟨.hbm, 76, rfl⟩
abbrev main_call0_v31 : Ref sig .tc := ⟨.hbm, 77, rfl⟩
abbrev main_call0_cst_6 : Ref sig .tc := ⟨.hbm, 78, rfl⟩
abbrev main_call0_v32 : Ref sig .tc := ⟨.hbm, 79, rfl⟩
abbrev main_call0_cst_7 : Ref sig .tc := ⟨.hbm, 80, rfl⟩
abbrev main_call0_v33 : Ref sig .tc := ⟨.hbm, 81, rfl⟩
abbrev main_call0_v34 : Ref sig .tc := ⟨.hbm, 82, rfl⟩
abbrev main_call0_v35 : Ref sig .tc := ⟨.hbm, 83, rfl⟩
abbrev main_call0_v36 : Ref sig .tc := ⟨.hbm, 84, rfl⟩
abbrev main_call0_v37 : Ref sig .tc := ⟨.hbm, 85, rfl⟩
abbrev main_call0_v38 : Ref sig .tc := ⟨.hbm, 86, rfl⟩
abbrev main_call0_v39 : Ref sig .tc := ⟨.hbm, 87, rfl⟩
abbrev main_call0_v40 : Ref sig .tc := ⟨.hbm, 88, rfl⟩
abbrev main_call0_v41 : Ref sig .tc := ⟨.hbm, 89, rfl⟩
abbrev main_call0_v42 : Ref sig .tc := ⟨.hbm, 90, rfl⟩
abbrev main_call0_v43 : Ref sig .tc := ⟨.hbm, 91, rfl⟩
abbrev main_call0_v44 : Ref sig .tc := ⟨.hbm, 92, rfl⟩
abbrev main_call0_v45 : Ref sig .tc := ⟨.hbm, 93, rfl⟩
abbrev main_call0_v46 : Ref sig .tc := ⟨.hbm, 94, rfl⟩
abbrev main_call0_v47 : Ref sig .tc := ⟨.hbm, 95, rfl⟩
abbrev main_call0_v48 : Ref sig .tc := ⟨.hbm, 96, rfl⟩
abbrev main_call0_v49 : Ref sig .tc := ⟨.hbm, 97, rfl⟩
abbrev main_call0_v50 : Ref sig .tc := ⟨.hbm, 98, rfl⟩
abbrev main_call0_v51 : Ref sig .tc := ⟨.hbm, 99, rfl⟩
abbrev main_call0_v52 : Ref sig .tc := ⟨.hbm, 100, rfl⟩
abbrev main_call0_v53 : Ref sig .tc := ⟨.hbm, 101, rfl⟩
abbrev main_call0_v54 : Ref sig .tc := ⟨.hbm, 102, rfl⟩
abbrev main_call0_v55 : Ref sig .tc := ⟨.hbm, 103, rfl⟩
abbrev main_call0_v56 : Ref sig .tc := ⟨.hbm, 104, rfl⟩
abbrev main_call0_v57 : Ref sig .tc := ⟨.hbm, 105, rfl⟩
abbrev main_call0_v58 : Ref sig .tc := ⟨.hbm, 106, rfl⟩
abbrev main_call0_v59 : Ref sig .tc := ⟨.hbm, 107, rfl⟩
abbrev main_call0_v60 : Ref sig .tc := ⟨.hbm, 108, rfl⟩
abbrev main_call0_v61 : Ref sig .tc := ⟨.hbm, 109, rfl⟩
abbrev main_call0_v62 : Ref sig .tc := ⟨.hbm, 110, rfl⟩
abbrev main_call0_v63 : Ref sig .tc := ⟨.hbm, 111, rfl⟩
abbrev main_call0_v64 : Ref sig .tc := ⟨.hbm, 112, rfl⟩
abbrev main_call0_v65 : Ref sig .tc := ⟨.hbm, 113, rfl⟩
abbrev main_call0_v66 : Ref sig .tc := ⟨.hbm, 114, rfl⟩
abbrev main_call0_v67 : Ref sig .tc := ⟨.hbm, 115, rfl⟩
abbrev main_call0_v68 : Ref sig .tc := ⟨.hbm, 116, rfl⟩
abbrev main_call0_v69 : Ref sig .tc := ⟨.hbm, 117, rfl⟩
abbrev main_call0_v70 : Ref sig .tc := ⟨.hbm, 118, rfl⟩
abbrev main_call0_v71 : Ref sig .tc := ⟨.hbm, 119, rfl⟩
abbrev main_call0_v72 : Ref sig .tc := ⟨.hbm, 120, rfl⟩
abbrev main_call0_v73 : Ref sig .tc := ⟨.hbm, 121, rfl⟩
abbrev main_call0_v74_0 : Ref sig .tc := ⟨.hbm, 122, rfl⟩
abbrev main_call0_v74_1 : Ref sig .tc := ⟨.hbm, 123, rfl⟩
abbrev main_call0_v74_2 : Ref sig .tc := ⟨.hbm, 124, rfl⟩
abbrev main_call0_v75 : Ref sig .tc := ⟨.hbm, 125, rfl⟩
abbrev main_call0_cst_8 : Ref sig .tc := ⟨.hbm, 126, rfl⟩
abbrev main_call0_v76 : Ref sig .tc := ⟨.hbm, 127, rfl⟩
abbrev main_call0_v77 : Ref sig .tc := ⟨.hbm, 128, rfl⟩
abbrev main_call0_cst_9 : Ref sig .tc := ⟨.hbm, 129, rfl⟩
abbrev main_call0_v78 : Ref sig .tc := ⟨.hbm, 130, rfl⟩
abbrev main_call0_v79 : Ref sig .tc := ⟨.hbm, 131, rfl⟩
abbrev main_call0_v80 : Ref sig .tc := ⟨.hbm, 132, rfl⟩
abbrev main_call0_cst_10 : Ref sig .tc := ⟨.hbm, 133, rfl⟩
abbrev main_call0_v81 : Ref sig .tc := ⟨.hbm, 134, rfl⟩
abbrev main_call0_v82 : Ref sig .tc := ⟨.hbm, 135, rfl⟩
abbrev main_call0_cst_11 : Ref sig .tc := ⟨.hbm, 136, rfl⟩
abbrev main_call0_v83 : Ref sig .tc := ⟨.hbm, 137, rfl⟩
abbrev main_call0_v84 : Ref sig .tc := ⟨.hbm, 138, rfl⟩
abbrev main_call0_v85 : Ref sig .tc := ⟨.hbm, 139, rfl⟩
abbrev main_call0_v86 : Ref sig .tc := ⟨.hbm, 140, rfl⟩
abbrev main_call0_v87 : Ref sig .tc := ⟨.hbm, 141, rfl⟩
abbrev main_call0_v88 : Ref sig .tc := ⟨.hbm, 142, rfl⟩
abbrev main_call0_v89 : Ref sig .tc := ⟨.hbm, 143, rfl⟩
abbrev main_call0_cst_12 : Ref sig .tc := ⟨.hbm, 144, rfl⟩
abbrev main_call0_v90 : Ref sig .tc := ⟨.hbm, 145, rfl⟩
abbrev main_call0_v91 : Ref sig .tc := ⟨.hbm, 146, rfl⟩
abbrev main_call0_v92 : Ref sig .tc := ⟨.hbm, 147, rfl⟩
abbrev main_call0_cst_13 : Ref sig .tc := ⟨.hbm, 148, rfl⟩
abbrev main_call0_v93 : Ref sig .tc := ⟨.hbm, 149, rfl⟩
abbrev main_call0_v94 : Ref sig .tc := ⟨.hbm, 150, rfl⟩
abbrev main_call0_cst_14 : Ref sig .tc := ⟨.hbm, 151, rfl⟩
abbrev main_call0_v95 : Ref sig .tc := ⟨.hbm, 152, rfl⟩
abbrev main_call0_v96 : Ref sig .tc := ⟨.hbm, 153, rfl⟩
abbrev main_call0_cst_15 : Ref sig .tc := ⟨.hbm, 154, rfl⟩
abbrev main_call0_v97 : Ref sig .tc := ⟨.hbm, 155, rfl⟩
abbrev main_call0_v98 : Ref sig .tc := ⟨.hbm, 156, rfl⟩
abbrev main_call0_v99 : Ref sig .tc := ⟨.hbm, 157, rfl⟩
abbrev main_call0_v100 : Ref sig .tc := ⟨.hbm, 158, rfl⟩
abbrev main_call0_v101 : Ref sig .tc := ⟨.hbm, 159, rfl⟩
abbrev main_call0_v102 : Ref sig .tc := ⟨.hbm, 160, rfl⟩
abbrev main_call0_v103 : Ref sig .tc := ⟨.hbm, 161, rfl⟩
abbrev main_call0_c_16 : Ref sig .tc := ⟨.hbm, 162, rfl⟩
abbrev main_call0_call2_v0 : Ref sig .tc := ⟨.hbm, 163, rfl⟩
abbrev main_call0_call2_c : Ref sig .tc := ⟨.hbm, 164, rfl⟩
abbrev main_call0_call2_v1 : Ref sig .tc := ⟨.hbm, 165, rfl⟩
abbrev main_call0_call2_c_0 : Ref sig .tc := ⟨.hbm, 166, rfl⟩
abbrev main_call0_call2_v2 : Ref sig .tc := ⟨.hbm, 167, rfl⟩
abbrev main_call0_call2_v3 : Ref sig .tc := ⟨.hbm, 168, rfl⟩
abbrev main_call0_call2_v4 : Ref sig .tc := ⟨.hbm, 169, rfl⟩
abbrev main_call0_call2_c_1 : Ref sig .tc := ⟨.hbm, 170, rfl⟩
abbrev main_call0_call2_v5 : Ref sig .tc := ⟨.hbm, 171, rfl⟩
abbrev main_call0_call2_v6 : Ref sig .tc := ⟨.hbm, 172, rfl⟩
abbrev main_call0_call2_c_2 : Ref sig .tc := ⟨.hbm, 173, rfl⟩
abbrev main_call0_call2_v7 : Ref sig .tc := ⟨.hbm, 174, rfl⟩
abbrev main_call0_call2_v8 : Ref sig .tc := ⟨.hbm, 175, rfl⟩
abbrev main_call0_call2_c_3 : Ref sig .tc := ⟨.hbm, 176, rfl⟩
abbrev main_call0_call2_v9 : Ref sig .tc := ⟨.hbm, 177, rfl⟩
abbrev main_call0_call2_v10 : Ref sig .tc := ⟨.hbm, 178, rfl⟩
abbrev main_call0_call2_v11 : Ref sig .tc := ⟨.hbm, 179, rfl⟩
abbrev main_call0_call2_v12 : Ref sig .tc := ⟨.hbm, 180, rfl⟩
abbrev main_call0_call2_v13 : Ref sig .tc := ⟨.hbm, 181, rfl⟩
abbrev main_call0_call2_v14 : Ref sig .tc := ⟨.hbm, 182, rfl⟩
abbrev main_call0_v104 : Ref sig .tc := ⟨.hbm, 183, rfl⟩
abbrev main_call0_c_17 : Ref sig .tc := ⟨.hbm, 184, rfl⟩
abbrev main_call0_v105 : Ref sig .tc := ⟨.hbm, 185, rfl⟩
abbrev main_call0_v106 : Ref sig .tc := ⟨.hbm, 186, rfl⟩
abbrev main_call0_v107 : Ref sig .tc := ⟨.hbm, 187, rfl⟩
abbrev main_call0_v108 : Ref sig .tc := ⟨.hbm, 188, rfl⟩
abbrev main_call0_call3_v0 : Ref sig .tc := ⟨.hbm, 189, rfl⟩
abbrev main_call0_v109 : Ref sig .tc := ⟨.hbm, 190, rfl⟩
abbrev main_call0_v110 : Ref sig .tc := ⟨.hbm, 191, rfl⟩
abbrev main_call0_v111 : Ref sig .tc := ⟨.hbm, 192, rfl⟩
abbrev main_call0_v112 : Ref sig .tc := ⟨.hbm, 193, rfl⟩
abbrev main_v0 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem15_0 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_53 : BitVec 32 := 0#32
  let v173 : BitVec 1 := Scalar.cmpi .eq arg0 c0_i32_53
  let v174 : BitVec 32 := Scalar.extui v173
  let c0_i32_54 : BitVec 32 := 0#32
  let v175 : BitVec 1 := Scalar.cmpi .ne v174 c0_i32_54
  v175

def k0_cond2 (i : grid0.Coords) : BitVec 1 :=
  let arg0 : BitVec 32 := BitVec.ofNat 32 (i 0).val
  let c0_i32_55 : BitVec 32 := 0#32
  let v176 : BitVec 1 := Scalar.cmpi .ne arg0 c0_i32_55
  let v177 : BitVec 32 := Scalar.extui v176
  let c0_i32_56 : BitVec 32 := 0#32
  let v178 : BitVec 1 := Scalar.cmpi .ne v177 c0_i32_56
  v178

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨1, ![8], ![false]⟩

@[reducible] def k1_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k1_off1 (k1_t1 : Fin k1_t1_loop.trips) : Fin 3 → Nat :=
  let c0_7 : Index := 0#32
  let c15_i32 : BitVec 32 := 15#32
  let c0_i32 : BitVec 32 := 0#32
  let c1_i32 : BitVec 32 := 1#32
  let arg8 : BitVec 32 := Scf.iv c0_i32 c1_i32 k1_t1
  let v15 : BitVec 32 := Scalar.subi c15_i32 arg8
  let c128_i32 : BitVec 32 := 128#32
  let v16 : BitVec 32 := Scalar.muli v15 c128_i32
  let v17 : Index := Scalar.indexCast v16
  let c0_8 : Index := 0#32
  ![0, v17.toNat, 0]
def k1_off2 (k1_t1 : Fin k1_t1_loop.trips) : Fin 3 → Nat :=
  let c0_13 : Index := 0#32
  let c15_i32 : BitVec 32 := 15#32
  let c0_i32 : BitVec 32 := 0#32
  let c1_i32 : BitVec 32 := 1#32
  let arg8 : BitVec 32 := Scf.iv c0_i32 c1_i32 k1_t1
  let v15 : BitVec 32 := Scalar.subi c15_i32 arg8
  let c128_i32_12 : BitVec 32 := 128#32
  let v29 : BitVec 32 := Scalar.muli v15 c128_i32_12
  let v30 : Index := Scalar.indexCast v29
  let c0_14 : Index := 0#32
  ![0, v30.toNat, 0]
def k1_off3 (k1_t1 : Fin k1_t1_loop.trips) : Fin 3 → Nat :=
  let c0_21 : Index := 0#32
  let c15_i32 : BitVec 32 := 15#32
  let c0_i32 : BitVec 32 := 0#32
  let c1_i32 : BitVec 32 := 1#32
  let arg8 : BitVec 32 := Scf.iv c0_i32 c1_i32 k1_t1
  let v15 : BitVec 32 := Scalar.subi c15_i32 arg8
  let c15_i32_17 : BitVec 32 := 15#32
  let v41 : BitVec 1 := Scalar.cmpi .slt v15 c15_i32_17
  let c1_i32_18 : BitVec 32 := 1#32
  let v42 : BitVec 32 := Scalar.addi v15 c1_i32_18
  let c15_i32_19 : BitVec 32 := 15#32
  let v43 : BitVec 32 := Scalar.select v41 v42 c15_i32_19
  let c128_i32_20 : BitVec 32 := 128#32
  let v44 : BitVec 32 := Scalar.muli v43 c128_i32_20
  let v45 : Index := Scalar.indexCast v44
  let c0_22 : Index := 0#32
  ![0, v45.toNat, 0]
def k1_off4 (k1_t1 : Fin k1_t1_loop.trips) : Fin 2 → Nat :=
  let c15_i32 : BitVec 32 := 15#32
  let c0_i32 : BitVec 32 := 0#32
  let c1_i32 : BitVec 32 := 1#32
  let arg8 : BitVec 32 := Scf.iv c0_i32 c1_i32 k1_t1
  let v15 : BitVec 32 := Scalar.subi c15_i32 arg8
  let c128_i32_35 : BitVec 32 := 128#32
  let v86 : BitVec 32 := Scalar.muli v15 c128_i32_35
  let v87 : Index := Scalar.indexCast v86
  let c0_36 : Index := 0#32
  ![v87.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S8x2048x512 : Shape := ⟨3, ![8, 2048, 512]⟩
abbrev S8x2048 : Shape := ⟨2, ![8, 2048]⟩
abbrev S8x2048x256 : Shape := ⟨3, ![8, 2048, 256]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x32 : Shape := ⟨2, ![128, 32]⟩
abbrev S512x256 : Shape := ⟨2, ![512, 256]⟩
abbrev S256 : Shape := ⟨1, ![256]⟩
abbrev S16384x32x16 : Shape := ⟨3, ![16384, 32, 16]⟩
abbrev S16384x16x32 : Shape := ⟨3, ![16384, 16, 32]⟩
abbrev S16 : Shape := ⟨1, ![16]⟩
abbrev S16x1 : Shape := ⟨2, ![16, 1]⟩
abbrev S1x32 : Shape := ⟨2, ![1, 32]⟩
abbrev S_ : Shape := ⟨0, ![]⟩
abbrev S16x32 : Shape := ⟨2, ![16, 32]⟩
abbrev S1x16x32 : Shape := ⟨3, ![1, 16, 32]⟩
abbrev S1x1x32 : Shape := ⟨3, ![1, 1, 32]⟩
abbrev S16384x16x16 : Shape := ⟨3, ![16384, 16, 16]⟩
abbrev S16384x16 : Shape := ⟨2, ![16384, 16]⟩
abbrev S16384x16x1 : Shape := ⟨3, ![16384, 16, 1]⟩
abbrev S16384x16x128 : Shape := ⟨3, ![16384, 16, 128]⟩
abbrev S1x1x128 : Shape := ⟨3, ![1, 1, 128]⟩
abbrev S1x1x256 : Shape := ⟨3, ![1, 1, 256]⟩
abbrev S1x1x1 : Shape := ⟨3, ![1, 1, 1]⟩
abbrev S8x1 : Shape := ⟨2, ![8, 1]⟩
abbrev S8 : Shape := ⟨1, ![8]⟩
abbrev S16384 : Shape := ⟨1, ![16384]⟩
abbrev S16384x256 : Shape := ⟨2, ![16384, 256]⟩
abbrev S16384x1 : Shape := ⟨2, ![16384, 1]⟩
abbrev S8x2047 : Shape := ⟨2, ![8, 2047]⟩
abbrev S8x2048x1 : Shape := ⟨3, ![8, 2048, 1]⟩
abbrev S2048 : Shape := ⟨1, ![2048]⟩
abbrev S2048x1 : Shape := ⟨2, ![2048, 1]⟩
abbrev S1x256 : Shape := ⟨2, ![1, 256]⟩
abbrev S2048x256 : Shape := ⟨2, ![2048, 256]⟩
abbrev S1x2048x256 : Shape := ⟨3, ![1, 2048, 256]⟩

abbrev nBuf : Space → Nat
  | .hbm => 278
  | .vmem => 0
  | .smem => 0
  | _ => 0

abbrev hbmTy0_0 (i : Nat) : BufTy := match i % 128 with
  | 0 => ⟨S8x2048x512, .f32⟩
  | 1 => ⟨S8x2048, .i32⟩
  | 2 => ⟨S8x2048x256, .f32⟩
  | 3 => ⟨S32x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x128, .f32⟩
  | 12 => ⟨S128, .f32⟩
  | 13 => ⟨S128x32, .f32⟩
  | 14 => ⟨S32, .f32⟩
  | 15 => ⟨S512x256, .f32⟩
  | 16 => ⟨S256, .f32⟩
  | 17 => ⟨S16384x32x16, .f32⟩
  | 18 => ⟨S16384x16x32, .f32⟩
  | 19 => ⟨S16, .f32⟩
  | 20 => ⟨S16x1, .f32⟩
  | 21 => ⟨S32, .f32⟩
  | 22 => ⟨S1x32, .f32⟩
  | 23 => ⟨S_, .f32⟩
  | 24 => ⟨S1x32, .f32⟩
  | 25 => ⟨S1x32, .f32⟩
  | 26 => ⟨S1x32, .f32⟩
  | 27 => ⟨S_, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S_, .f32⟩
  | 34 => ⟨S1x32, .f32⟩
  | 35 => ⟨S1x32, .f32⟩
  | 36 => ⟨S16x32, .f32⟩
  | 37 => ⟨S16x32, .f32⟩
  | 38 => ⟨S16x32, .f32⟩
  | 39 => ⟨S32, .i32⟩
  | 40 => ⟨S1x32, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S1x32, .i32⟩
  | 48 => ⟨S1x32, .i32⟩
  | 49 => ⟨S_, .i32⟩
  | 50 => ⟨S1x32, .i32⟩
  | 51 => ⟨S1x32, .i1⟩
  | 52 => ⟨S_, .i32⟩
  | 53 => ⟨S1x32, .i32⟩
  | 54 => ⟨S1x32, .i1⟩
  | 55 => ⟨S_, .i32⟩
  | 56 => ⟨S_, .i1⟩
  | 57 => ⟨S1x32, .i1⟩
  | 58 => ⟨S1x32, .i1⟩
  | 59 => ⟨S1x32, .i1⟩
  | 60 => ⟨S1x32, .i32⟩
  | 61 => ⟨S1x32, .i32⟩
  | 62 => ⟨S1x32, .i32⟩
  | 63 => ⟨S_, .i32⟩
  | 64 => ⟨S1x32, .i32⟩
  | 65 => ⟨S1x32, .i1⟩
  | 66 => ⟨S16x32, .f32⟩
  | 67 => ⟨S16x32, .f32⟩
  | 68 => ⟨S16x32, .i1⟩
  | 69 => ⟨S16x32, .f32⟩
  | 70 => ⟨S1x16x32, .f32⟩
  | 71 => ⟨S16384x16x32, .f32⟩
  | 72 => ⟨S_, .f32⟩
  | 73 => ⟨S16384x16x32, .f32⟩
  | 74 => ⟨S16384x16x32, .f32⟩
  | 75 => ⟨S16384x16x32, .f32⟩
  | 76 => ⟨S_, .f32⟩
  | 77 => ⟨S16384x16x32, .f32⟩
  | 78 => ⟨S16384x16x32, .f32⟩
  | 79 => ⟨S16384x16x32, .f32⟩
  | 80 => ⟨S1x1x32, .f32⟩
  | 81 => ⟨S16384x16x32, .f32⟩
  | 82 => ⟨S16384x16x32, .f32⟩
  | 83 => ⟨S16384x16x32, .f32⟩
  | 84 => ⟨S1x1x32, .f32⟩
  | 85 => ⟨S16384x16x32, .f32⟩
  | 86 => ⟨S16384x16x32, .f32⟩
  | 87 => ⟨S16384x16x32, .f32⟩
  | 88 => ⟨S1x1x32, .f32⟩
  | 89 => ⟨S16384x16x32, .f32⟩
  | 90 => ⟨S16384x16x32, .f32⟩
  | 91 => ⟨S16384x16x16, .f32⟩
  | 92 => ⟨S_, .f32⟩
  | 93 => ⟨S_, .f32⟩
  | 94 => ⟨S16384x16x16, .f32⟩
  | 95 => ⟨S16384x16x16, .f32⟩
  | 96 => ⟨S_, .f32⟩
  | 97 => ⟨S16384x16, .f32⟩
  | 98 => ⟨S_, .f32⟩
  | 99 => ⟨S16384x16, .f32⟩
  | 100 => ⟨S16384x16, .f32⟩
  | 101 => ⟨S16384x16x1, .f32⟩
  | 102 => ⟨S16384x16x16, .f32⟩
  | 103 => ⟨S16384x16x16, .f32⟩
  | 104 => ⟨S16384x16x16, .f32⟩
  | 105 => ⟨S_, .f32⟩
  | 106 => ⟨S16384x16, .f32⟩
  | 107 => ⟨S16384x16x1, .f32⟩
  | 108 => ⟨S16384x16x16, .f32⟩
  | 109 => ⟨S16384x16x16, .f32⟩
  | 110 => ⟨S16384x16x32, .f32⟩
  | 111 => ⟨S16384x16x32, .f32⟩
  | 112 => ⟨S1x1x32, .f32⟩
  | 113 => ⟨S16384x16x32, .f32⟩
  | 114 => ⟨S16384x16x32, .f32⟩
  | 115 => ⟨S16384x16x128, .f32⟩
  | 116 => ⟨S1x1x128, .f32⟩
  | 117 => ⟨S16384x16x128, .f32⟩
  | 118 => ⟨S16384x16x128, .f32⟩
  | 119 => ⟨S_, .f32⟩
  | 120 => ⟨S16384x16x128, .f32⟩
  | 121 => ⟨S16384x16x128, .f32⟩
  | 122 => ⟨S16384x16x32, .f32⟩
  | 123 => ⟨S1x1x32, .f32⟩
  | 124 => ⟨S16384x16x32, .f32⟩
  | 125 => ⟨S16384x16x32, .f32⟩
  | 126 => ⟨S16384x32x16, .f32⟩
  | 127 => ⟨S8x2048x512, .f32⟩
  | _ => ⟨S8x2048x512, .f32⟩

abbrev hbmTy0_1 (i : Nat) : BufTy := match i % 128 with
  | 0 => ⟨S8x2048x256, .f32⟩
  | 1 => ⟨S1x1x256, .f32⟩
  | 2 => ⟨S8x2048x256, .f32⟩
  | 3 => ⟨S8x2048x256, .f32⟩
  | 4 => ⟨S_, .f32⟩
  | 5 => ⟨S_, .f32⟩
  | 6 => ⟨S_, .f32⟩
  | 7 => ⟨S_, .f32⟩
  | 8 => ⟨S8x2048x256, .f32⟩
  | 9 => ⟨S8x2048x256, .f32⟩
  | 10 => ⟨S_, .i32⟩
  | 11 => ⟨S_, .f32⟩
  | 12 => ⟨S_, .f32⟩
  | 13 => ⟨S1x1x1, .f32⟩
  | 14 => ⟨S_, .f32⟩
  | 15 => ⟨S1x1x1, .f32⟩
  | 16 => ⟨S1x1x1, .f32⟩
  | 17 => ⟨S8x2048x256, .f32⟩
  | 18 => ⟨S8x2048x256, .f32⟩
  | 19 => ⟨S8x2048x256, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S8x2048x256, .f32⟩
  | 35 => ⟨S8x2048x256, .f32⟩
  | 36 => ⟨S_, .i32⟩
  | 37 => ⟨S_, .i32⟩
  | 38 => ⟨S8x2048, .i32⟩
  | 39 => ⟨S8x1, .i32⟩
  | 40 => ⟨S_, .i32⟩
  | 41 => ⟨S8x1, .i32⟩
  | 42 => ⟨S8x1, .i1⟩
  | 43 => ⟨S8x1, .i32⟩
  | 44 => ⟨S8x2048, .i32⟩
  | 45 => ⟨S8x2048, .i32⟩
  | 46 => ⟨S8, .i32⟩
  | 47 => ⟨S8x1, .i32⟩
  | 48 => ⟨S_, .i32⟩
  | 49 => ⟨S8x1, .i32⟩
  | 50 => ⟨S8x1, .i32⟩
  | 51 => ⟨S8x2048, .i32⟩
  | 52 => ⟨S8x2048, .i32⟩
  | 53 => ⟨S16384, .i32⟩
  | 54 => ⟨S16384x256, .f32⟩
  | 55 => ⟨S_, .f32⟩
  | 56 => ⟨S16384x256, .f32⟩
  | 57 => ⟨S16384x1, .i32⟩
  | 58 => ⟨S16384x256, .f32⟩
  | 59 => ⟨S_, .f32⟩
  | 60 => ⟨S16384, .f32⟩
  | 61 => ⟨S_, .f32⟩
  | 62 => ⟨S16384, .f32⟩
  | 63 => ⟨S16384x1, .i32⟩
  | 64 => ⟨S16384, .f32⟩
  | 65 => ⟨S_, .f32⟩
  | 66 => ⟨S_, .f32⟩
  | 67 => ⟨S16384, .f32⟩
  | 68 => ⟨S16384, .f32⟩
  | 69 => ⟨S16384x1, .f32⟩
  | 70 => ⟨S16384x256, .f32⟩
  | 71 => ⟨S16384x256, .f32⟩
  | 72 => ⟨S_, .i1⟩
  | 73 => ⟨S8x1, .i1⟩
  | 74 => ⟨S8x2047, .i32⟩
  | 75 => ⟨S8x2047, .i32⟩
  | 76 => ⟨S8x2047, .i1⟩
  | 77 => ⟨S8x2048, .i1⟩
  | 78 => ⟨S8x2048x1, .i1⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x256, .f32⟩
  | 88 => ⟨S8x2048x256, .f32⟩
  | 89 => ⟨S_, .f32⟩
  | 90 => ⟨S_, .f32⟩
  | 91 => ⟨S8x2048x256, .i1⟩
  | 92 => ⟨S8x2048x256, .f32⟩
  | 93 => ⟨S8x2048x256, .f32⟩
  | 94 => ⟨S8x2048x256, .f32⟩
  | 95 => ⟨S8x2048x256, .f32⟩
  | 96 => ⟨S2048, .f32⟩
  | 97 => ⟨S2048x1, .f32⟩
  | 98 => ⟨S256, .f32⟩
  | 99 => ⟨S1x256, .f32⟩
  | 100 => ⟨S_, .f32⟩
  | 101 => ⟨S1x256, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S_, .f32⟩
  | 111 => ⟨S1x256, .f32⟩
  | 112 => ⟨S1x256, .f32⟩
  | 113 => ⟨S2048x256, .f32⟩
  | 114 => ⟨S2048x256, .f32⟩
  | 115 => ⟨S2048x256, .f32⟩
  | 116 => ⟨S256, .i32⟩
  | 117 => ⟨S1x256, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S1x256, .i32⟩
  | 125 => ⟨S1x256, .i32⟩
  | 126 => ⟨S_, .i32⟩
  | 127 => ⟨S1x256, .i32⟩
  | _ => ⟨S8x2048x512, .f32⟩

abbrev hbmTy0_2 (i : Nat) : BufTy := match i % 128 with
  | 0 => ⟨S1x256, .i1⟩
  | 1 => ⟨S_, .i32⟩
  | 2 => ⟨S1x256, .i32⟩
  | 3 => ⟨S1x256, .i1⟩
  | 4 => ⟨S_, .i32⟩
  | 5 => ⟨S_, .i1⟩
  | 6 => ⟨S1x256, .i1⟩
  | 7 => ⟨S1x256, .i1⟩
  | 8 => ⟨S1x256, .i1⟩
  | 9 => ⟨S1x256, .i32⟩
  | 10 => ⟨S1x256, .i32⟩
  | 11 => ⟨S1x256, .i32⟩
  | 12 => ⟨S_, .i32⟩
  | 13 => ⟨S1x256, .i32⟩
  | 14 => ⟨S1x256, .i1⟩
  | 15 => ⟨S2048x256, .f32⟩
  | 16 => ⟨S2048x256, .f32⟩
  | 17 => ⟨S2048x256, .i1⟩
  | 18 => ⟨S2048x256, .f32⟩
  | 19 => ⟨S1x2048x256, .f32⟩
  | 20 => ⟨S8x2048x256, .f32⟩
  | 21 => ⟨S8x2048x256, .f32⟩
  | _ => ⟨S8x2048x512, .f32⟩

abbrev hbmTy (i : Nat) : BufTy := match i / 128 with
  | 0 => hbmTy0_0 i
  | 1 => hbmTy0_1 i
  | 2 => hbmTy0_2 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_1 : Ref sig .tc := ⟨.hbm, 49, rfl⟩
abbrev main_call0_v5 : Ref sig .tc := ⟨.hbm, 50, rfl⟩
abbrev main_call0_v6 : Ref sig .tc := ⟨.hbm, 51, rfl⟩
abbrev main_call0_c_2 : Ref sig .tc := ⟨.hbm, 52, rfl⟩
abbrev main_call0_v7 : Ref sig .tc := ⟨.hbm, 53, rfl⟩
abbrev main_call0_v8 : Ref sig .tc := ⟨.hbm, 54, rfl⟩
abbrev main_call0_c_3 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_v20 : Ref sig .tc := ⟨.hbm, 62, rfl⟩
abbrev main_c_3 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_call1_v0 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_4 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_5 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_6 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_7 : Ref sig .tc := ⟨.hbm, 96, rfl⟩
abbrev main_v49 : Ref sig .tc := ⟨.hbm, 97, rfl⟩
abbrev main_cst_8 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_9 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_call2_cst : Ref sig .tc := ⟨.hbm, 119, rfl⟩
abbrev main_call2_v0 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_10 : Ref sig .tc := ⟨.hbm, 132, rfl⟩
abbrev main_v80 : Ref sig .tc := ⟨.hbm, 133, rfl⟩
abbrev main_cst_11 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_12 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_cst_1 : Ref sig .tc := ⟨.hbm, 149, rfl⟩
abbrev main_call3_v8 : Ref sig .tc := ⟨.hbm, 150, rfl⟩
abbrev main_call3_cst_2 : Ref sig .tc := ⟨.hbm, 151, rfl⟩
abbrev main_call3_v9 : Ref sig .tc := ⟨.hbm, 152, rfl⟩
abbrev main_call3_v10 : Ref sig .tc := ⟨.hbm, 153, rfl⟩
abbrev main_call3_cst_3 : Ref sig .tc := ⟨.hbm, 154, rfl⟩
abbrev main_call3_v11 : Ref sig .tc := ⟨.hbm, 155, rfl⟩
abbrev main_call3_cst_4 : Ref sig .tc := ⟨.hbm, 156, rfl⟩
abbrev main_call3_call0_v0 : Ref sig .tc := ⟨.hbm, 157, rfl⟩
abbrev main_v84 : Ref sig .tc := ⟨.hbm, 158, rfl⟩
abbrev main_cst_13 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_call4_call0_c : Ref sig .tc := ⟨.hbm, 164, rfl⟩
abbrev main_call4_call0_v0 : Ref sig .tc := ⟨.hbm, 165, rfl⟩
abbrev main_v89 : Ref sig .tc := ⟨.hbm, 166, rfl⟩
abbrev main_v90 : Ref sig .tc := ⟨.hbm, 167, rfl⟩
abbrev main_c_14 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_c_15 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_16 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_17 : Ref sig .tc := ⟨.hbm, 187, rfl⟩
abbrev main_v107 : Ref sig .tc := ⟨.hbm, 188, rfl⟩
abbrev main_cst_18 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_cst_19 : Ref sig .tc := ⟨.hbm, 193, rfl⟩
abbrev main_call5_v0 : Ref sig .tc := ⟨.hbm, 194, rfl⟩
abbrev main_call5_v1 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_c_20 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_c_21 : Ref sig .tc := ⟨.hbm, 207, rfl⟩
abbrev main_v121 : Ref sig .tc := ⟨.hbm, 208, rfl⟩
abbrev main_v122 : Ref sig .tc := ⟨.hbm, 209, rfl⟩
abbrev main_c_22 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_23 : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_24 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_25 : Ref sig .tc := ⟨.hbm, 232, rfl⟩
abbrev main_v139 : Ref sig .tc := ⟨.hbm, 233, rfl⟩
abbrev main_v140 : Ref sig .tc := ⟨.hbm, 234, rfl⟩
abbrev main_cst_26 : Ref sig .tc := ⟨.hbm, 235, rfl⟩
abbrev main_v141 : Ref sig .tc := ⟨.hbm, 236, rfl⟩
abbrev main_v142 : Ref sig .tc := ⟨.hbm, 237, rfl⟩
abbrev main_cst_27 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_c_28 : Ref sig .tc := ⟨.hbm, 246, rfl⟩
abbrev main_call7_v0 : Ref sig .tc := ⟨.hbm, 247, rfl⟩
abbrev main_call7_c : Ref sig .tc := ⟨.hbm, 248, rfl⟩
abbrev main_call7_v1 : Ref sig .tc := ⟨.hbm, 249, rfl⟩
abbrev main_call7_c_0 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_call7_c_1 : Ref sig .tc := ⟨.hbm, 254, rfl⟩
abbrev main_call7_v5 : Ref sig .tc := ⟨.hbm, 255, rfl⟩
abbrev main_call7_v6 : Ref sig .tc := ⟨.hbm, 256, rfl⟩
abbrev main_call7_c_2 : Ref sig .tc := ⟨.hbm, 257, rfl⟩
abbrev main_call7_v7 : Ref sig .tc := ⟨.hbm, 258, rfl⟩
abbrev main_call7_v8 : Ref sig .tc := ⟨.hbm, 259, rfl⟩
abbrev main_call7_c_3 : Ref sig .tc := ⟨.hbm, 260, rfl⟩
abbrev main_call7_v9 : Ref sig .tc := ⟨.hbm, 261, rfl⟩
abbrev main_call7_v10 : Ref sig .tc := ⟨.hbm, 262, rfl⟩
abbrev main_call7_v11 : Ref sig .tc := ⟨.hbm, 263, rfl⟩
abbrev main_call7_v12 : Ref sig .tc := ⟨.hbm, 264, rfl⟩
abbrev main_call7_v13 : Ref sig .tc := ⟨.hbm, 265, rfl⟩
abbrev main_call7_v14 : Ref sig .tc := ⟨.hbm, 266, rfl⟩
abbrev main_v150 : Ref sig .tc := ⟨.hbm, 267, rfl⟩
abbrev main_c_29 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_call8_v0 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩

abbrev nD : Nat := 1
abbrev τ : Topo := Topo.v7x

variable {F : FTy → Type} [FloatOps F]
-- ==== Proof.KernelIdeal.StageA.lean ====
/-
  The first call (the embedding of 64 groups of eight tokens at each of 32 points) run from any contents `V` of
  the buffers: what each point leaves in the windows, and the body obligation of the pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.StageA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := k0_cond1 i = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ 1 ≤ t.val :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
def freshTab0_14 : ℕ → Bool
  | 0 => true
  | n + 1 => (0x80000000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
theorem liveAt0_14_A : ∀ t : Fin cfg0.N, cond0_0 (grid0.coords t) → ¬cond0_1 (grid0.coords t) → cfg0.idle 14 (grid0.coords t) = false := by decide +kernel
theorem liveAt0_14_B : ∀ t : Fin cfg0.N, ¬cond0_0 (grid0.coords t) → cond0_1 (grid0.coords t) → cfg0.idle 14 (grid0.coords t) = false := by decide +kernel
theorem notFresh0_14_B : ∀ t : Fin cfg0.N, ¬cond0_0 (grid0.coords t) → cond0_1 (grid0.coords t) → cfg0.fresh 14 t.val = false := by
  intro t; rw [fresh0_14_eq t]; revert t; decide +kernel
def freshTab0_15 : ℕ → Bool
  | 0 => true
  | n + 1 => (0x80000000 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
theorem liveAt0_15_A : ∀ t : Fin cfg0.N, cond0_0 (grid0.coords t) → ¬cond0_1 (grid0.coords t) → cfg0.idle 15 (grid0.coords t) = false := by decide +kernel
theorem liveAt0_15_B : ∀ t : Fin cfg0.N, ¬cond0_0 (grid0.coords t) → cond0_1 (grid0.coords t) → cfg0.idle 15 (grid0.coords t) = false := by decide +kernel
theorem notFresh0_15_B : ∀ t : Fin cfg0.N, ¬cond0_0 (grid0.coords t) → cond0_1 (grid0.coords t) → cfg0.fresh 15 t.val = false := by
  intro t; rw [fresh0_15_eq t]; revert t; decide +kernel

abbrev VO0_13 : View sig .tc .vmem S512x256 .bf16 := (Memref.whole cc0_stg13_0 : Memref sig .tc .vmem S512x256 .bf16).view
abbrev VO0_14 : View sig .tc .vmem S1x1 .f32 := (Memref.whole cc0_stg14_0 : Memref sig .tc .vmem S1x1 .f32).view
abbrev VO0_15 : View sig .tc .vmem S1x1 .f32 := (Memref.whole cc0_stg15_0 : Memref sig .tc .vmem S1x1 .f32).view
abbrev ms0_0 (t : Fin cfg0.N) : Memref sig .tc .vmem S64x128x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x32 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1 .f32 := win0_15.stage (cfg0.slots t 15)
abbrev hs0_15 (t : Fin cfg0.N) : (ms0_15 t).IsWhole := hstage0_15 ((cfg0.slots t 15).cast nbuf0_15)

set_option maxHeartbeats 1000000 in
noncomputable def kernelRun0_A (c : Dev nD) (i : grid0.Coords) (arg1 : Memref sig .tc .vmem S64x128x32 .bf16) (harg1 : arg1.IsWhole) (arg2 : Memref sig .tc .vmem S32x32 .bf16) (harg2 : arg2.IsWhole) (arg3 : Memref sig .tc .vmem S32x32 .bf16) (harg3 : arg3.IsWhole) (arg4 : Memref sig .tc .vmem S32x32 .bf16) (harg4 : arg4.IsWhole) (arg5 : Memref sig .tc .vmem S32x128 .bf16) (harg5 : arg5.IsWhole) (arg6 : Memref sig .tc .vmem S128x32 .bf16) (harg6 : arg6.IsWhole) (arg7 : Memref sig .tc .vmem S512x256 .bf16) (harg7 : arg7.IsWhole) (arg8 : Memref sig .tc .vmem S128x32 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S1x128 .f32) (harg11 : arg11.IsWhole) (arg12 : Memref sig .tc .vmem S1x32 .f32) (harg12 : arg12.IsWhole) (arg13 : Memref sig .tc .vmem S1x256 .f32) (harg13 : arg13.IsWhole) (arg14 : Memref sig .tc .vmem S512x256 .bf16) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S64x128x32 .bf16) (x1 : Vec F S32x32 .bf16) (x2 : Vec F S32x32 .bf16) (x3 : Vec F S32x32 .bf16) (x4 : Vec F S32x128 .bf16) (x5 : Vec F S128x32 .bf16) (x6 : Vec F S512x256 .bf16) (x7 : Vec F S128x32 .f32) (x8 : Vec F S128x32 .f32) (x9 : Vec F S128x32 .f32) (x10 : Vec F S1x128 .f32) (x11 : Vec F S1x32 .f32) (x12 : Vec F S1x256 .f32) :
    Σ' (L13 : List (View.Piece (Elt F) S512x256 .bf16)), Σ' (L14 : List (View.Piece (Elt F) S1x1 .f32)), { L15 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15)) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__stage_a_eq_skeleton]; unfold cc0__stage_a_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; iexact H15

set_option maxHeartbeats 1000000 in
noncomputable def kernelRun0_B (c : Dev nD) (i : grid0.Coords) (arg1 : Memref sig .tc .vmem S64x128x32 .bf16) (harg1 : arg1.IsWhole) (arg2 : Memref sig .tc .vmem S32x32 .bf16) (harg2 : arg2.IsWhole) (arg3 : Memref sig .tc .vmem S32x32 .bf16) (harg3 : arg3.IsWhole) (arg4 : Memref sig .tc .vmem S32x32 .bf16) (harg4 : arg4.IsWhole) (arg5 : Memref sig .tc .vmem S32x128 .bf16) (harg5 : arg5.IsWhole) (arg6 : Memref sig .tc .vmem S128x32 .bf16) (harg6 : arg6.IsWhole) (arg7 : Memref sig .tc .vmem S512x256 .bf16) (harg7 : arg7.IsWhole) (arg8 : Memref sig .tc .vmem S128x32 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S1x128 .f32) (harg11 : arg11.IsWhole) (arg12 : Memref sig .tc .vmem S1x32 .f32) (harg12 : arg12.IsWhole) (arg13 : Memref sig .tc .vmem S1x256 .f32) (harg13 : arg13.IsWhole) (arg14 : Memref sig .tc .vmem S512x256 .bf16) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S64x128x32 .bf16) (x1 : Vec F S32x32 .bf16) (x2 : Vec F S32x32 .bf16) (x3 : Vec F S32x32 .bf16) (x4 : Vec F S32x128 .bf16) (x5 : Vec F S128x32 .bf16) (x6 : Vec F S512x256 .bf16) (x7 : Vec F S128x32 .f32) (x8 : Vec F S128x32 .f32) (x9 : Vec F S128x32 .f32) (x10 : Vec F S1x128 .f32) (x11 : Vec F S1x32 .f32) (x12 : Vec F S1x256 .f32) (xo14 : Vec F S1x1 .f32) (xo15 : Vec F S1x1 .f32) :
    Σ' (L13 : List (View.Piece (Elt F) S512x256 .bf16)), Σ' (L14 : List (View.Piece (Elt F) S1x1 .f32)), { L15 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xo14 ∗ owns (c : Thread nD τ) arg16 fullShare xo15
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15)) -∗ K ⟨⟩))
          ⊢ wp frame (wpE (defs₀ (F := F)) Variants.none c none) E (cc0__stage_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__stage_a_eq_skeleton]; unfold cc0__stage_a_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    iexists _; iexact H15

section
variable (c : Dev nD) (i : grid0.Coords) (arg1 : Memref sig .tc .vmem S64x128x32 .bf16) (harg1 : arg1.IsWhole) (arg2 : Memref sig .tc .vmem S32x32 .bf16) (harg2 : arg2.IsWhole) (arg3 : Memref sig .tc .vmem S32x32 .bf16) (harg3 : arg3.IsWhole) (arg4 : Memref sig .tc .vmem S32x32 .bf16) (harg4 : arg4.IsWhole) (arg5 : Memref sig .tc .vmem S32x128 .bf16) (harg5 : arg5.IsWhole) (arg6 : Memref sig .tc .vmem S128x32 .bf16) (harg6 : arg6.IsWhole) (arg7 : Memref sig .tc .vmem S512x256 .bf16) (harg7 : arg7.IsWhole) (arg8 : Memref sig .tc .vmem S128x32 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S1x128 .f32) (harg11 : arg11.IsWhole) (arg12 : Memref sig .tc .vmem S1x32 .f32) (harg12 : arg12.IsWhole) (arg13 : Memref sig .tc .vmem S1x256 .f32) (harg13 : arg13.IsWhole) (arg14 : Memref sig .tc .vmem S512x256 .bf16) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S64x128x32 .bf16) (x1 : Vec F S32x32 .bf16) (x2 : Vec F S32x32 .bf16) (x3 : Vec F S32x32 .bf16) (x4 : Vec F S32x128 .bf16) (x5 : Vec F S128x32 .bf16) (x6 : Vec F S512x256 .bf16) (x7 : Vec F S128x32 .f32) (x8 : Vec F S128x32 .f32) (x9 : Vec F S128x32 .f32) (x10 : Vec F S1x128 .f32) (x11 : Vec F S1x32 .f32) (x12 : Vec F S1x256 .f32)

theorem cover0_A_13 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).1 S512x256.size (by sl_kernel_rfl) y

def out0_A_13 : Vec F S512x256 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).1)

theorem cover0_A_14 (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1 S1x1.size (by sl_kernel_rfl) y

def out0_A_14 : Vec F S1x1 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1)

theorem cover0_A_15 (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.2.1 S1x1.size (by sl_kernel_rfl) y

def out0_A_15 : Vec F S1x1 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.2.1)

end

section
variable (c : Dev nD) (i : grid0.Coords) (arg1 : Memref sig .tc .vmem S64x128x32 .bf16) (harg1 : arg1.IsWhole) (arg2 : Memref sig .tc .vmem S32x32 .bf16) (harg2 : arg2.IsWhole) (arg3 : Memref sig .tc .vmem S32x32 .bf16) (harg3 : arg3.IsWhole) (arg4 : Memref sig .tc .vmem S32x32 .bf16) (harg4 : arg4.IsWhole) (arg5 : Memref sig .tc .vmem S32x128 .bf16) (harg5 : arg5.IsWhole) (arg6 : Memref sig .tc .vmem S128x32 .bf16) (harg6 : arg6.IsWhole) (arg7 : Memref sig .tc .vmem S512x256 .bf16) (harg7 : arg7.IsWhole) (arg8 : Memref sig .tc .vmem S128x32 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S1x128 .f32) (harg11 : arg11.IsWhole) (arg12 : Memref sig .tc .vmem S1x32 .f32) (harg12 : arg12.IsWhole) (arg13 : Memref sig .tc .vmem S1x256 .f32) (harg13 : arg13.IsWhole) (arg14 : Memref sig .tc .vmem S512x256 .bf16) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S64x128x32 .bf16) (x1 : Vec F S32x32 .bf16) (x2 : Vec F S32x32 .bf16) (x3 : Vec F S32x32 .bf16) (x4 : Vec F S32x128 .bf16) (x5 : Vec F S128x32 .bf16) (x6 : Vec F S512x256 .bf16) (x7 : Vec F S128x32 .f32) (x8 : Vec F S128x32 .f32) (x9 : Vec F S128x32 .f32) (x10 : Vec F S1x128 .f32) (x11 : Vec F S1x32 .f32) (x12 : Vec F S1x256 .f32) (xo14 : Vec F S1x1 .f32) (xo15 : Vec F S1x1 .f32)

theorem cover0_B_13 (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).1 S512x256.size (by sl_kernel_rfl) y

def out0_B_13 : Vec F S512x256 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).1)

theorem cover0_B_14 (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.1 S1x1.size (by sl_kernel_rfl) y

def out0_B_14 : Vec F S1x1 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.1)

theorem cover0_B_15 (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.2.1 S1x1.size (by sl_kernel_rfl) y

def out0_B_15 : Vec F S1x1 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xo14 xo15).2.2.1)

end

def outsAt0 (c : Dev nD) : (n : ℕ) → n < cfg0.N → Vec F S512x256 .bf16 × Vec F S1x1 .f32 × Vec F S1x1 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩))
    else
      if h1 : 1 ≤ (n + 1) then
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (outsAt0 c n (Nat.lt_of_succ_lt hn)).2.1 (outsAt0 c n (Nat.lt_of_succ_lt hn)).2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (outsAt0 c n (Nat.lt_of_succ_lt hn)).2.1 (outsAt0 c n (Nat.lt_of_succ_lt hn)).2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (outsAt0 c n (Nat.lt_of_succ_lt hn)).2.1 (outsAt0 c n (Nat.lt_of_succ_lt hn)).2.2)
      else
        False.elim (by have hN : n + 1 < 32 := lt_of_lt_of_eq hn (show cfg0.N = 32 from N_0); omega)

theorem outsAt0_A (c : Dev nD) (t : Fin cfg0.N) (h0 : t.val % 32 = 0) (h1 : ¬1 ≤ t.val) :
    outsAt0 V c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : 1 ≤ t.val) :
    outsAt0 V c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (outsAt0 V c (t.val - 1) (Nat.lt_of_le_of_lt (Nat.sub_le _ _) t.isLt)).2.1 (outsAt0 V c (t.val - 1) (Nat.lt_of_le_of_lt (Nat.sub_le _ _) t.isLt)).2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (outsAt0 V c (t.val - 1) (Nat.lt_of_le_of_lt (Nat.sub_le _ _) t.isLt)).2.1 (outsAt0 V c (t.val - 1) (Nat.lt_of_le_of_lt (Nat.sub_le _ _) t.isLt)).2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => (outsAt0 V c t.val t.isLt).1
    | ⟨14, _⟩ => (outsAt0 V c t.val t.isLt).2.1
    | ⟨15, _⟩ => (outsAt0 V c t.val t.isLt).2.2
    | ⟨_ + 16, h⟩ => absurd h (Nat.not_lt.2 (Nat.le_add_left _ _))
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = iblk V c 6 t := by dsimp only [dat]
theorem after0_7 (c : Dev nD) (t : Fin cfg0.N) : (dat V c).after 7 t = iblk V c 7 t := by dsimp only [dat]
theorem after0_8 (c : Dev nD) (t : Fin cfg0.N) : (dat V c).after 8 t = iblk V c 8 t := by dsimp only [dat]
theorem after0_9 (c : Dev nD) (t : Fin cfg0.N) : (dat V c).after 9 t = iblk V c 9 t := by dsimp only [dat]
theorem after0_10 (c : Dev nD) (t : Fin cfg0.N) : (dat V c).after 10 t = iblk V c 10 t := by dsimp only [dat]
theorem after0_11 (c : Dev nD) (t : Fin cfg0.N) : (dat V c).after 11 t = iblk V c 11 t := by dsimp only [dat]
theorem after0_12 (c : Dev nD) (t : Fin cfg0.N) : (dat V c).after 12 t = iblk V c 12 t := by dsimp only [dat]
theorem after0_13 (c : Dev nD) (t : Fin cfg0.N) : (dat V c).after 13 t = (outsAt0 V c t.val t.isLt).1 := by dsimp only [dat]
theorem after0_14 (c : Dev nD) (t : Fin cfg0.N) : (dat V c).after 14 t = (outsAt0 V c t.val t.isLt).2.1 := by dsimp only [dat]
theorem after0_15 (c : Dev nD) (t : Fin cfg0.N) : (dat V c).after 15 t = (outsAt0 V c t.val t.isLt).2.2 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_6 (c : Dev nD) (t : Fin cfg0.N) (d) : (dat V c).before 6 t d = iblk V c 6 t :=
  before0_6_of V (dat V c) (A_eq V c 6) (after0_6 V c) t d
theorem before0_7 (c : Dev nD) (t : Fin cfg0.N) (d) : (dat V c).before 7 t d = iblk V c 7 t :=
  before0_7_of V (dat V c) (A_eq V c 7) (after0_7 V c) t d
theorem before0_8 (c : Dev nD) (t : Fin cfg0.N) (d) : (dat V c).before 8 t d = iblk V c 8 t :=
  before0_8_of V (dat V c) (A_eq V c 8) (after0_8 V c) t d
theorem before0_9 (c : Dev nD) (t : Fin cfg0.N) (d) : (dat V c).before 9 t d = iblk V c 9 t :=
  before0_9_of V (dat V c) (A_eq V c 9) (after0_9 V c) t d
theorem before0_10 (c : Dev nD) (t : Fin cfg0.N) (d) : (dat V c).before 10 t d = iblk V c 10 t :=
  before0_10_of V (dat V c) (A_eq V c 10) (after0_10 V c) t d
theorem before0_11 (c : Dev nD) (t : Fin cfg0.N) (d) : (dat V c).before 11 t d = iblk V c 11 t :=
  before0_11_of V (dat V c) (A_eq V c 11) (after0_11 V c) t d
theorem before0_12 (c : Dev nD) (t : Fin cfg0.N) (d) : (dat V c).before 12 t d = iblk V c 12 t :=
  before0_12_of V (dat V c) (A_eq V c 12) (after0_12 V c) t d

theorem hcarry0_14 (c : Dev nD) : ∀ (t : Fin cfg0.N) (_ : t.val ≠ 0), cfg0.idle 14 (grid0.coords t) = true → cfg0.fresh 14 t.val = false →
    (dat V c).after 14 t = (dat V c).after 14 ⟨t.val - 1, by omega⟩ := by
  intro t _ hi _
  have hN : t.val < 32 := lt_of_lt_of_eq t.isLt (show cfg0.N = 32 from N_0)
  rw [after0_14, after0_14]
  by_cases h0 : t.val % 32 = 0
  · by_cases h1 : 1 ≤ t.val
    · exfalso; omega
    · rw [liveAt0_14_A t ((hcond0_0 t).mpr h0) (fun h => h1 ((hcond0_1 t).mp h))] at hi
      exact absurd hi Bool.false_ne_true
  · by_cases h1 : 1 ≤ t.val
    · rw [liveAt0_14_B t (fun h => h0 ((hcond0_0 t).mp h)) ((hcond0_1 t).mpr h1)] at hi
      exact absurd hi Bool.false_ne_true
    · exfalso; omega

theorem hcarry0_15 (c : Dev nD) : ∀ (t : Fin cfg0.N) (_ : t.val ≠ 0), cfg0.idle 15 (grid0.coords t) = true → cfg0.fresh 15 t.val = false →
    (dat V c).after 15 t = (dat V c).after 15 ⟨t.val - 1, by omega⟩ := by
  intro t _ hi _
  have hN : t.val < 32 := lt_of_lt_of_eq t.isLt (show cfg0.N = 32 from N_0)
  rw [after0_15, after0_15]
  by_cases h0 : t.val % 32 = 0
  · by_cases h1 : 1 ≤ t.val
    · exfalso; omega
    · rw [liveAt0_15_A t ((hcond0_0 t).mpr h0) (fun h => h1 ((hcond0_1 t).mp h))] at hi
      exact absurd hi Bool.false_ne_true
  · by_cases h1 : 1 ≤ t.val
    · rw [liveAt0_15_B t (fun h => h0 ((hcond0_0 t).mp h)) ((hcond0_1 t).mpr h1)] at hi
      exact absurd hi Bool.false_ne_true
    · exfalso; omega
theorem before0_14_B (c : Dev nD) (t : Fin cfg0.N) (h0 : ¬t.val % 32 = 0) (h1 : 1 ≤ t.val) (d) :
    (dat V c).before 14 t d = (outsAt0 V c (t.val - 1) (Nat.lt_of_le_of_lt (Nat.sub_le _ _) t.isLt)).2.1 := by
  rw [Dat.before_out_traj _ 14 rfl (fun _ _ => rfl) (hcarry0_14 V c) t.val t rfl d,
    if_neg (by rw [notFresh0_14_B t (fun h => h0 ((hcond0_0 t).mp h)) ((hcond0_1 t).mpr h1)]; exact Bool.false_ne_true)]
  dsimp only [dat]
theorem before0_15_B (c : Dev nD) (t : Fin cfg0.N) (h0 : ¬t.val % 32 = 0) (h1 : 1 ≤ t.val) (d) :
    (dat V c).before 15 t d = (outsAt0 V c (t.val - 1) (Nat.lt_of_le_of_lt (Nat.sub_le _ _) t.isLt)).2.2 := by
  rw [Dat.before_out_traj _ 15 rfl (fun _ _ => rfl) (hcarry0_15 V c) t.val t rfl d,
    if_neg (by rw [notFresh0_15_B t (fun h => h0 ((hcond0_0 t).mp h)) ((hcond0_1 t).mpr h1)]; exact Bool.false_ne_true)]
  dsimp only [dat]

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d))
    ∗ (∃ d, owns (c : Thread nD τ) (ms0_11 t) fullShare ((dat V c).before 11 t d))
    ∗ (∃ d, owns (c : Thread nD τ) (ms0_12 t) fullShare ((dat V c).before 12 t d))
    ∗ (∃ d, owns (c : Thread nD τ) (ms0_13 t) fullShare ((dat V c).before 13 t d))
    ∗ (∃ d, owns (c : Thread nD τ) (ms0_14 t) fullShare ((dat V c).before 14 t d))
    ∗ (∃ d, owns (c : Thread nD τ) (ms0_15 t) fullShare ((dat V c).before 15 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 3200000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7, before0_8, before0_9, before0_10, before0_11, before0_12]
  rw [show (dat V c).Φ t.succ = (dat V c).Φ t.castSucc from rfl,
    show (dat V c).owesAt () t.succ = (dat V c).owesAt () t.castSucc from rfl]
  have hN : t.val < 32 := lt_of_lt_of_eq t.isLt (show cfg0.N = 32 from N_0)
  by_cases h0 : t.val % 32 = 0
  · by_cases h1 : 1 ≤ t.val
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8 t], after0_8]
      rw [show (dat V c).leavesExact 9 t = owns (c : Thread nD τ) (ms0_9 t) fullShare ((dat V c).after 9 t) from by
      unfold Dat.leavesExact; rw [liveAt0_9 t], after0_9]
      rw [show (dat V c).leavesExact 10 t = owns (c : Thread nD τ) (ms0_10 t) fullShare ((dat V c).after 10 t) from by
      unfold Dat.leavesExact; rw [liveAt0_10 t], after0_10]
      rw [show (dat V c).leavesExact 11 t = owns (c : Thread nD τ) (ms0_11 t) fullShare ((dat V c).after 11 t) from by
      unfold Dat.leavesExact; rw [liveAt0_11 t], after0_11]
      rw [show (dat V c).leavesExact 12 t = owns (c : Thread nD τ) (ms0_12 t) fullShare ((dat V c).after 12 t) from by
      unfold Dat.leavesExact; rw [liveAt0_12 t], after0_12]
      rw [show (dat V c).leavesExact 13 t = owns (c : Thread nD τ) (ms0_13 t) fullShare ((dat V c).after 13 t) from by
      unfold Dat.leavesExact; rw [liveAt0_13 t], after0_13]
      rw [show (dat V c).leavesExact 14 t = owns (c : Thread nD τ) (ms0_14 t) fullShare ((dat V c).after 14 t) from by
      unfold Dat.leavesExact; rw [liveAt0_14_A t ((hcond0_0 t).mpr h0) (fun h => h1 ((hcond0_1 t).mp h))], after0_14]
      rw [show (dat V c).leavesExact 15 t = owns (c : Thread nD τ) (ms0_15 t) fullShare ((dat V c).after 15 t) from by
      unfold Dat.leavesExact; rw [liveAt0_15_A t ((hcond0_0 t).mpr h0) (fun h => h1 ((hcond0_1 t).mp h))], after0_15]
      rw [outsAt0_A V c t h0 h1]
      unfold out0_A_13 out0_A_14 out0_A_15; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      iintro ⟨H0, H1, H2, H3, H4, H5, H6, H7, H8, H9, H10, H11, H12, ⟨%e13, H13⟩, ⟨%e14, H14⟩, ⟨%e15, H15⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _)
  · by_cases h1 : 1 ≤ t.val
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8 t], after0_8]
      rw [show (dat V c).leavesExact 9 t = owns (c : Thread nD τ) (ms0_9 t) fullShare ((dat V c).after 9 t) from by
      unfold Dat.leavesExact; rw [liveAt0_9 t], after0_9]
      rw [show (dat V c).leavesExact 10 t = owns (c : Thread nD τ) (ms0_10 t) fullShare ((dat V c).after 10 t) from by
      unfold Dat.leavesExact; rw [liveAt0_10 t], after0_10]
      rw [show (dat V c).leavesExact 11 t = owns (c : Thread nD τ) (ms0_11 t) fullShare ((dat V c).after 11 t) from by
      unfold Dat.leavesExact; rw [liveAt0_11 t], after0_11]
      rw [show (dat V c).leavesExact 12 t = owns (c : Thread nD τ) (ms0_12 t) fullShare ((dat V c).after 12 t) from by
      unfold Dat.leavesExact; rw [liveAt0_12 t], after0_12]
      rw [show (dat V c).leavesExact 13 t = owns (c : Thread nD τ) (ms0_13 t) fullShare ((dat V c).after 13 t) from by
      unfold Dat.leavesExact; rw [liveAt0_13 t], after0_13]
      rw [show (dat V c).leavesExact 14 t = owns (c : Thread nD τ) (ms0_14 t) fullShare ((dat V c).after 14 t) from by
      unfold Dat.leavesExact; rw [liveAt0_14_B t (fun h => h0 ((hcond0_0 t).mp h)) ((hcond0_1 t).mpr h1)], after0_14]
      rw [show (dat V c).leavesExact 15 t = owns (c : Thread nD τ) (ms0_15 t) fullShare ((dat V c).after 15 t) from by
      unfold Dat.leavesExact; rw [liveAt0_15_B t (fun h => h0 ((hcond0_0 t).mp h)) ((hcond0_1 t).mpr h1)], after0_15]
      rw [outsAt0_B V c t h0 h1]
      simp only [before0_14_B V c t h0 h1, before0_15_B V c t h0 h1]
      unfold out0_B_13 out0_B_14 out0_B_15; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      isplitl [H15]; · iexact H15
      iintro ⟨H0, H1, H2, H3, H4, H5, H6, H7, H8, H9, H10, H11, H12, ⟨%e13, H13⟩, ⟨%e14, H14⟩, ⟨%e15, H15⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.StageA

end
-- ==== Proof.KernelIdeal.StageB.lean ====
/-
  The second call (normalisation and block means of one batch row at each of 8 points) run from any contents `V` of
  the buffers: what each point leaves in the windows, and the body obligation of the pipeline.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.StageB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev VO0_6 : View sig .tc .vmem S1x2048x256 .f32 := (Memref.whole cc1_stg6_0 : Memref sig .tc .vmem S1x2048x256 .f32).view
abbrev ms0_0 (t : Fin cfg1.N) : Memref sig .tc .vmem S1x2048x256 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x2048x256 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x2048x1 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S2048x256 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x1 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x1 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1x2048x256 .f32 := win1_6.stage (cfg1.slots t 6)
abbrev hs0_6 (t : Fin cfg1.N) : (ms0_6 t).IsWhole := hstage1_6 ((cfg1.slots t 6).cast nbuf1_6)

set_option maxHeartbeats 1000000 in
noncomputable def kernelRun0_A (c : Dev nD) (i : grid1.Coords) (arg1 : Memref sig .tc .vmem S1x2048x256 .bf16) (harg1 : arg1.IsWhole) (arg2 : Memref sig .tc .vmem S1x2048x256 .f32) (harg2 : arg2.IsWhole) (arg3 : Memref sig .tc .vmem S1x2048x1 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048x256 .f32) (harg7 : arg7.IsWhole)
    (x0 : Vec F S1x2048x256 .bf16) (x1 : Vec F S1x2048x256 .f32) (x2 : Vec F S1x2048x1 .f32) (x3 : Vec F S2048x256 .f32) (x4 : Vec F S1x1 .f32) (x5 : Vec F S1x1 .f32) :
    { L6 : List (View.Piece (Elt F) S1x2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__stage_b i arg1 harg1 arg2 harg2 arg3 harg3 arg4 harg4 arg5 harg5 arg6 harg6 arg7 harg7) K } := by
  refine ⟨?_, fun E K => ?run⟩
  case run =>
    simp only [cc1__stage_b_eq_skeleton]; unfold cc1__stage_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

section
variable (c : Dev nD) (i : grid1.Coords) (arg1 : Memref sig .tc .vmem S1x2048x256 .bf16) (harg1 : arg1.IsWhole) (arg2 : Memref sig .tc .vmem S1x2048x256 .f32) (harg2 : arg2.IsWhole) (arg3 : Memref sig .tc .vmem S1x2048x1 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048x256 .f32) (harg7 : arg7.IsWhole)
    (x0 : Vec F S1x2048x256 .bf16) (x1 : Vec F S1x2048x256 .f32) (x2 : Vec F S1x2048x1 .f32) (x3 : Vec F S2048x256 .f32) (x4 : Vec F S1x1 .f32) (x5 : Vec F S1x1 .f32)

theorem cover0_A_6 (y : S1x2048x256.Idx) :
    ∃ pc ∈ (kernelRun0_A c i arg1 harg1 arg2 harg2 arg3 harg3 arg4 harg4 arg5 harg5 arg6 harg6 arg7 harg7 x0 x1 x2 x3 x4 x5).1, y ∈ pc.1.set :=
  View.cover_of_tiledL (kernelRun0_A c i arg1 harg1 arg2 harg2 arg3 harg3 arg4 harg4 arg5 harg5 arg6 harg6 arg7 harg7 x0 x1 x2 x3 x4 x5).1 S1x128x256.size (by sl_kernel_rfl) y

def out0_A_6 : Vec F S1x2048x256 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4 x5).1)

end

def outsAt0 (c : Dev nD) (t : Fin cfg1.N) : Vec F S1x2048x256 .f32 :=
  out0_A_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) (iblk V c 2 t) (iblk V c 3 t) (iblk V c 4 t) (iblk V c 5 t)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t)
  Φ _ := Pipeline.ΦA spec1 c
  q _ := fullShare
  owed _ := 0

theorem A_eq (c : Dev nD) (w : Fin cfg1.W) : (dat V c).A w = V c (Pipeline.arrRef spec1 w) := by
  dsimp only [dat]

theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = (outsAt0 V c t) := by dsimp only [dat]

theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d

def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d)))

def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5]
  rw [show (dat V c).Φ t.succ = (dat V c).Φ t.castSucc from rfl,
    show (dat V c).owesAt () t.succ = (dat V c).owesAt () t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid1.coords t) _ _ _ _ _ _ _ _ _ _ _ _ _ _ (iblk V c 0 t) (iblk V c 1 t) (iblk V c 2 t) (iblk V c 3 t) (iblk V c 4 t) (iblk V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.StageB

end
-- ==== Proof.KernelIdeal.Calls.lean ====
/-
  The two calls as segments of the program, at any contents they are entered at.
-/
module

public import proofs.«01_k».proof.Proof.KernelIdeal.StageA
public import proofs.«01_k».proof.Proof.KernelIdeal.StageB
public import proofs.«01_k».proof.Proof.Gen.KernelIdeal.Regions
public import Idealize.ShloMosaic.Lib.Pipeline.RegionArrays

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-- Levels: one index at every semaphore of a TensorCore. -/
abbrev L : GSem nD τ sig → Finset Unit := fun g => if g.1.2 = .tc then {()} else ∅
abbrev lv : GSem nD τ sig → Unit → ℕ := fun _ _ => 0

/-- The two calls' proof data, from the contents each is entered at. -/
def datsOf (VA VB : (c : Dev nD) → Valuation τ sig (Elt F)) : (p : Fin 2) → (c : Dev nD) → Dat τ (Elt F) Unit ℕ (UR sig nD τ) ℕ (cfgs p) c
  | ⟨0, _⟩ => fun c => StageA.dat (fun c b => VA c b) c
  | ⟨1, _⟩ => fun c => StageB.dat (fun c b => VB c b) c

/-- The levels serve both calls: nothing is owed. -/
theorem cut (p : Fin 2) : Pipeline.LevelCut (pcfgs (F := F)) adm () (L) (lv) p (fun _ : Dev nD => (0 : CellTallies nD τ sig Unit)) (fun _ => (0 : ℕ)) where
  hι c w s := Finset.mem_singleton_self ()
  hιb _ _ _ := le_rfl
  hD c g i h := absurd h (Nat.lt_irrefl 0)

/-- An array of the first call at its entry. -/
theorem entry0 (VA : (c : Dev nD) → Valuation τ sig (Elt F)) (c : Dev nD) (w : Fin cfg0.W) :
    (StageA.dat (fun c b => VA c b) c).arrAt w 0 = VA c (Proc.devRef .tc (Pipeline.arrRef spec0 w)) := rfl

/-- An array of the second call at its entry. -/
theorem entry1 (VB : (c : Dev nD) → Valuation τ sig (Elt F)) (c : Dev nD) (w : Fin cfg1.W) :
    (StageB.dat (fun c b => VB c b) c).arrAt w 0 = VB c (Proc.devRef .tc (Pipeline.arrRef spec1 w)) := rfl

/-- The first call as a segment from `VA` to `VA'`. -/
def R0 (VA VA' VB : (c : Dev nD) → Valuation τ sig (Elt F))
    (h : ∀ c w, (StageA.dat (fun c b => VA c b) c).arrAt w cfg0.N = VA' c (Proc.devRef .tc (Pipeline.arrRef spec0 w))) :
    RegionSeg (pcfgs (F := F)) adm (datsOf VA VB) () defs₀ Variants.none L lv 0 :=
  RegionSeg.ofHeld (pcfgs (F := F)) adm (datsOf VA VB) () defs₀ Variants.none L lv 0 (fun _ => 0)
    (fun c => iprop(∃ r, prngReg c r)) (fun c => iprop(∃ r, prngReg c r)) launch0.toP rfl
    (fun c => (StageA.body_obligation (fun c b => VA c b) c).loose) (fun _ _ => rfl) (fun _ => rfl) (fun c => (StageA.dat (fun c b => VA c b) c).share_full fun _ => rfl)
    (fun _ => .rfl) (fun _ => .rfl) (fun _ => 0) (cut 0)
    (fun c => StableHlo.held (c : Thread nD τ) (Pipeline.ucRefs τ sig \ Pipeline.arrRefs spec0) (VA c))
    VA VA' (entry0 VA) h

/-- The second call as a segment from `VB` to `VB'`. -/
def R1 (VA VB VB' : (c : Dev nD) → Valuation τ sig (Elt F))
    (h : ∀ c w, (StageB.dat (fun c b => VB c b) c).arrAt w cfg1.N = VB' c (Proc.devRef .tc (Pipeline.arrRef spec1 w))) :
    RegionSeg (pcfgs (F := F)) adm (datsOf VA VB) () defs₀ Variants.none L lv 1 :=
  RegionSeg.ofHeld (pcfgs (F := F)) adm (datsOf VA VB) () defs₀ Variants.none L lv 1 (fun _ => 0)
    (fun c => iprop(∃ r, prngReg c r)) (fun c => iprop(∃ r, prngReg c r)) launch1.toP rfl
    (fun c => (StageB.body_obligation (fun c b => VB c b) c).loose) (fun _ _ => rfl) (fun _ => rfl) (fun c => (StageB.dat (fun c b => VB c b) c).share_full fun _ => rfl)
    (fun _ => .rfl) (fun _ => .rfl) (fun _ => 0) (cut 1)
    (fun c => StableHlo.held (c : Thread nD τ) (Pipeline.ucRefs τ sig \ Pipeline.arrRefs spec1) (VB c))
    VB VB' (entry1 VB) h

/-- Entering a call: its arrays are taken out of the held buffers. -/
theorem hpre {gr W : ℕ} (win : Fin W → Pipeline.WinSpec sig gr) (hw : ∀ w, (Pipeline.arrRef win w).isScoped = false) (c : Dev nD) (W1 : Valuation τ sig (Elt F)) (X Y : sProp 𝕄) :
    iprop(StableHlo.held (c : Thread nD τ) (Pipeline.ucRefs τ sig) W1 ∗ X ∗ Y)
      ⊢ iprop(StableHlo.held (c : Thread nD τ) (Pipeline.arrRefs win) W1 ∗ X ∗ StableHlo.held (c : Thread nD τ) (Pipeline.ucRefs τ sig \ Pipeline.arrRefs win) W1 ∗ Y) := by
  rw [StableHlo.held_sub_split _ (Pipeline.arrRefs_sub_ucRefs win hw) W1]
  iintro ⟨⟨HT, HR⟩, HX, HY⟩
  isplitl [HT]; · iexact HT
  isplitl [HX]; · iexact HX
  isplitl [HR]; · iexact HR
  iexact HY

/-- Leaving a call: its arrays are put back beside the buffers it does not touch. -/
theorem hpost {gr W : ℕ} (win : Fin W → Pipeline.WinSpec sig gr) (hw : ∀ w, (Pipeline.arrRef win w).isScoped = false) (c : Dev nD) (W1 W2 : Valuation τ sig (Elt F)) (X Y : sProp 𝕄)
    (h : ∀ b ∈ Pipeline.ucRefs τ sig \ Pipeline.arrRefs win, W1 b = W2 b) :
    iprop(StableHlo.held (c : Thread nD τ) (Pipeline.arrRefs win) W2 ∗ X ∗ StableHlo.held (c : Thread nD τ) (Pipeline.ucRefs τ sig \ Pipeline.arrRefs win) W1 ∗ Y)
      ⊢ iprop(StableHlo.held (c : Thread nD τ) (Pipeline.ucRefs τ sig) W2 ∗ X ∗ Y) := by
  rw [StableHlo.held_sub_split _ (Pipeline.arrRefs_sub_ucRefs win hw) W2, StableHlo.held_congr _ h]
  iintro ⟨HT, HX, HR, HY⟩
  isplitl [HT HR]
  · isplitl [HT]; · iexact HT
    iexact HR
  isplitl [HX]; · iexact HX
  iexact HY

/-- A buffer of the rest of a call is none of its windows' arrays. -/
theorem ne_of_rest {gr W : ℕ} {win : Fin W → Pipeline.WinSpec sig gr} {b : DevRef τ sig} (hb : b ∈ Pipeline.ucRefs τ sig \ Pipeline.arrRefs win)
    (w : Fin W) : b ≠ Proc.devRef .tc (Pipeline.arrRef win w) := fun h =>
  (Finset.mem_sdiff.mp hb).2 (h ▸ Finset.mem_map.mpr ⟨_, Finset.mem_image.mpr ⟨w, Finset.mem_univ _, rfl⟩, rfl⟩)

end Cert.KernelIdeal.Run

end
-- ==== Proof.KernelIdeal.Run.lean ====
/-
  The whole program run: the host operations before the first call, the first call, the host operations between the
  calls, the second call. The two calls enter and leave the buffers at the contents `V1 … V4`; at the end every
  buffer holds what the last of these says.
-/
module

public import proofs.«01_k».proof.Proof.KernelIdeal.Calls
public import proofs.«01_k».proof.Proof.Gen.KernelIdeal.Regions
public import Idealize.ShloMosaic.Lib.Pipeline.RegionArrays

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first call's proof data, from the contents the host operations before it leave. -/
abbrev datA (c : Dev nD) : Dat τ (Elt F) Unit ℕ (UR sig nD τ) ℕ cfg0 c := StageA.dat (fun c b => V1 m c b) c

/-- What the first call leaves in its three results (any other buffer: unread). -/
def outsA : Outs (F := F) := fun _ r c =>
  Function.update (Function.update (Function.update (V1 m c) main_call0_v74_0 ((datA m c).arrAt 13 cfg0.N))
    main_call0_v74_1 ((datA m c).arrAt 14 cfg0.N)) main_call0_v74_2 ((datA m c).arrAt 15 cfg0.N) r

/-- What each call leaves in its results. -/
def outs : Outs (F := F) := fun j r c =>
  if j = 4 then Function.update (V1 m c) main_v0 ((StageB.dat (fun c b => V3 m (outsA m) c b) c).arrAt 6 cfg1.N) r else outsA m j r c

theorem V2_outs : V2 m (outs m) = V2 m (outsA m) := by
  funext c; unfold V2; unfold outs; rw [if_neg (by decide), if_neg (by decide), if_neg (by decide)]
theorem V3_outs : V3 m (outs m) = V3 m (outsA m) := by
  funext c; unfold V3; rw [V2_outs]

/-- The second call's proof data, from the contents the host operations between the calls leave. -/
abbrev datB (c : Dev nD) : Dat τ (Elt F) Unit ℕ (UR sig nD τ) ℕ cfg1 c := StageB.dat (fun c b => V3 m (outs m) c b) c

theorem V2_at0 (c : Dev nD) : V2 m (outs m) c main_call0_v74_0 = (datA m c).arrAt 13 cfg0.N := by
  rw [V2_outs]
  unfold V2 outsA
  generalize V1 m c = X
  rw [Function.update_of_ne (StableHlo.devRef_ne_of_ne (by decide)), Function.update_of_ne (StableHlo.devRef_ne_of_ne (by decide)), Function.update_self,
    Function.update_of_ne (StableHlo.devRef_ne_of_ne (by decide)), Function.update_of_ne (StableHlo.devRef_ne_of_ne (by decide)), Function.update_self]
theorem V2_at1 (c : Dev nD) : V2 m (outs m) c main_call0_v74_1 = (datA m c).arrAt 14 cfg0.N := by
  rw [V2_outs]
  unfold V2 outsA
  generalize V1 m c = X
  rw [Function.update_of_ne (StableHlo.devRef_ne_of_ne (by decide)), Function.update_self,
    Function.update_of_ne (StableHlo.devRef_ne_of_ne (by decide)), Function.update_self]
theorem V2_at2 (c : Dev nD) : V2 m (outs m) c main_call0_v74_2 = (datA m c).arrAt 15 cfg0.N := by
  rw [V2_outs]
  unfold V2 outsA
  generalize V1 m c = X
  rw [Function.update_self, Function.update_self]
theorem V4_at (c : Dev nD) : V4 m (outs m) c main_v0 = (datB m c).arrAt 6 cfg1.N := by
  have h : outs m 4 main_v0 c = (datB m c).arrAt 6 cfg1.N := by
    unfold datB
    rw [V3_outs]
    unfold outs
    rw [if_pos rfl, Function.update_self]
  unfold V4
  rw [Function.update_self, h]

/-- The two calls' proof data. -/
abbrev pdats := datsOf (V1 m) (V3 m (outs m))

/-- What rides beside the buffers: the generator register and the core owing nothing. -/
abbrev E (_ : Fin 3) (c : Dev nD) : sProp 𝕄 :=
  iprop((∃ r, prngReg c r) ∗ ∃ W, owes (c : Thread nD τ) (0 : CellTallies nD τ sig Unit) W)

/-- An array the first call only reads leaves as it came. -/
theorem exit0_in (VA : (c : Dev nD) → Valuation τ sig (Elt F)) (c : Dev nD) (w : Fin cfg0.W) (h : (cfg0.win w).isOut = false) :
    (StageA.dat (fun c b => VA c b) c).arrAt w cfg0.N = VA c (Proc.devRef .tc (Pipeline.arrRef spec0 w)) :=
  ((StageA.dat (fun c b => VA c b) c).arrAt_in w h _).trans (entry0 VA c w)

/-- An array the second call only reads leaves as it came. -/
theorem exit1_in (VB : (c : Dev nD) → Valuation τ sig (Elt F)) (c : Dev nD) (w : Fin cfg1.W) (h : (cfg1.win w).isOut = false) :
    (StageB.dat (fun c b => VB c b) c).arrAt w cfg1.N = VB c (Proc.devRef .tc (Pipeline.arrRef spec1 w)) :=
  ((StageB.dat (fun c b => VB c b) c).arrAt_in w h _).trans (entry1 VB c w)

theorem in0 : ∀ w : Fin cfg0.W, w ≠ 13 → w ≠ 14 → w ≠ 15 → (cfg0.win w).isOut = false
    ∧ Pipeline.arrRef spec0 w ∉ ([main_call0_v74_0, main_call0_v74_1, main_call0_v74_2] : List (Ref sig .tc)) := by decide
theorem in1 : ∀ w : Fin cfg1.W, w ≠ 6 → (cfg1.win w).isOut = false ∧ Pipeline.arrRef spec1 w ∉ ([main_v0] : List (Ref sig .tc)) := by decide

/-- The first call leaves its arrays as `V2` has them. -/
theorem exit0 (c : Dev nD) (w : Fin cfg0.W) : (datA m c).arrAt w cfg0.N = V2 m (outs m) c (Proc.devRef .tc (Pipeline.arrRef spec0 w)) := by
  by_cases h13 : w = 13
  · subst h13; exact (V2_at0 m c).symm
  by_cases h14 : w = 14
  · subst h14; exact (V2_at1 m c).symm
  by_cases h15 : w = 15
  · subst h15; exact (V2_at2 m c).symm
  exact (exit0_in (V1 m) c w (in0 w h13 h14 h15).1).trans (V2_of m (outs m) c _ (in0 w h13 h14 h15).2).symm

/-- The second call leaves its arrays as `V4` has them. -/
theorem exit1 (c : Dev nD) (w : Fin cfg1.W) : (datB m c).arrAt w cfg1.N = V4 m (outs m) c (Proc.devRef .tc (Pipeline.arrRef spec1 w)) := by
  by_cases h6 : w = 6
  · subst h6; exact (V4_at m c).symm
  exact (exit1_in (V3 m (outs m)) c w (in1 w h6).1).trans (V4_of m (outs m) c _ (in1 w h6).2).symm

/-- The first call, from `V1` to `V2`. -/
abbrev S0 := R0 (V1 m) (V2 m (outs m)) (V3 m (outs m)) (exit0 m)

/-- The second call, from `V3` to `V4`. -/
abbrev S1 := R1 (V1 m) (V3 m (outs m)) (V4 m (outs m)) (exit1 m)

/-- Into the first call. -/
theorem link1 (c : Dev nD) : iprop(StableHlo.held (c : Thread nD τ) (Pipeline.ucRefs τ sig) (V1 m c) ∗ E 0 c) ⊢ (S0 m).pre c :=
  hpre spec0 launch0.win.arr_unscoped c (V1 m c) _ _

/-- Out of the first call. -/
theorem link2 (c : Dev nD) : (S0 m).post c ⊢ iprop(StableHlo.held (c : Thread nD τ) (Pipeline.ucRefs τ sig) (V2 m (outs m) c) ∗ E 1 c) :=
  hpost spec0 launch0.win.arr_unscoped c (V1 m c) (V2 m (outs m) c) _ _ (fun b hb => by
    unfold V2
    rw [Function.update_of_ne (ne_of_rest hb 15), Function.update_of_ne (ne_of_rest hb 14), Function.update_of_ne (ne_of_rest hb 13)])

/-- Into the second call. -/
theorem link3 (c : Dev nD) : iprop(StableHlo.held (c : Thread nD τ) (Pipeline.ucRefs τ sig) (V3 m (outs m) c) ∗ E 1 c) ⊢ (S1 m).pre c :=
  hpre spec1 launch1.win.arr_unscoped c (V3 m (outs m) c) _ _

/-- Out of the second call. -/
theorem link4 (c : Dev nD) : (S1 m).post c ⊢ iprop(StableHlo.held (c : Thread nD τ) (Pipeline.ucRefs τ sig) (V4 m (outs m) c)
    ∗ ∃ W, owes (c : Thread nD τ) (0 : CellTallies nD τ sig Unit) W) :=
  (hpost spec1 launch1.win.arr_unscoped c (V3 m (outs m) c) (V4 m (outs m) c) _ _ (fun b hb => by
    unfold V4
    rw [Function.update_of_ne (ne_of_rest hb 6)])).trans (by
      iintro ⟨H, -, HO⟩
      isplitl [H]; · iexact H
      iexact HO)

set_option backward.isDefEq.respectTransparency.types false in
/-- The run: at the end every unscoped buffer holds what `V4` says and every semaphore counter is zero. -/
theorem run : θ_run defs (onTc (τ := τ) (main (F := F))) ⟨m, fun _ => 0, ρ⟩ (fun r =>
    (∀ c : Dev nD, ∀ b ∈ Pipeline.ucRefs τ sig, r.2.mem (c, b) = V4 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (S0 m) (S1 m))
    (fun c Q => by
      rewrite [main_chain c, Seg.run_eq_chain,
        show (segs m (outs m) Variants.none L lv E () (pdats m) (S0 m) (S1 m) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp))
    (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, link1 m c, link2 m c, link3 m c, link4 m c⟩)
    (hinit := ?_) (QY := fun c s => ∀ b ∈ Pipeline.ucRefs τ sig, s.mem (c, b) = V4 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro; exact h
    · iexact HSI

/-- A buffer of the program at the end of a run. -/
theorem read_end {r : PUnit × MemSt nD τ sig (Elt F)} (h : ∀ c : Dev nD, ∀ b ∈ Pipeline.ucRefs τ sig, r.2.mem (c, b) = V4 m (outs m) c b)
    (c : Dev nD) (b : Ref sig .tc) (hb : b.isScoped = false) : r.2.mem ((c.tc : Thread nD τ).loc b) = V4 m (outs m) c b :=
  h c (Proc.devRef .tc b) (Finset.mem_filter.mpr ⟨StableHlo.devRef_mem_tcRefs b, fun h' => Bool.false_ne_true (hb.symm.trans h')⟩)

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16]

theorem args_kept : ∀ b ∈ args, b ∉ hostOps0_W ∧ b ∉ ([main_call0_v74_0, main_call0_v74_1, main_call0_v74_2] : List (Ref sig .tc))
    ∧ b ∉ hostOps1_W ∧ b ∉ ([main_v0] : List (Ref sig .tc)) ∧ b.isScoped = false := by decide

/-- An argument ends as launched. -/
theorem arg_end {r : PUnit × MemSt nD τ sig (Elt F)} (h : ∀ c : Dev nD, ∀ b ∈ Pipeline.ucRefs τ sig, r.2.mem (c, b) = V4 m (outs m) c b)
    (c : Dev nD) (b : Ref sig .tc) (hb : b ∈ args) : r.2.mem ((c.tc : Thread nD τ).loc b) = m ((c.tc : Thread nD τ).loc b) := by
  obtain ⟨h0, h1, h2, h3, h4⟩ := args_kept b hb
  rw [read_end m h c b h4, V4_of m (outs m) c b h3, V3_of m (outs m) c b h2, V2_of m (outs m) c b h1, V1_of m c b h0]

end Cert.KernelIdeal.Run

end
-- ==== Proof.Maths.lean ====
module

public import Idealize.ShloMosaic.Lib.Pointwise

/-! # The mathematics of one token, in real numbers

Sums of reals inside the extended reals, the softmax of a row (masked or not), and the small
attention and feed-forward block that turns a token's 16 rows into its embedding. -/

@[expose] public section

set_option maxRecDepth 16384

open Idealize Idealize.ShloMosaic

namespace Cert.Maths

/-- A sum of reals, seen in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem exp_coe (a : ℝ) : Ideal.exp (a : EReal) = (Real.exp a : EReal) := rfl

theorem exp_bot : Ideal.exp ⊥ = 0 := rfl

theorem div_coe_coe (a : ℝ) {b : ℝ} (h : b ≠ 0) : Ideal.div (a : EReal) (b : EReal) = ((a / b : ℝ) : EReal) := by
  rw [Ideal.div_coe h, ← EReal.coe_mul]; congr 1; ring

theorem sqrt_coe {a : ℝ} (h : 0 ≤ a) : Ideal.sqrt (a : EReal) = (Real.sqrt a : EReal) := by
  show (if a < 0 then (⊥ : EReal) else (Real.sqrt a : EReal)) = _
  rw [if_neg (not_lt.mpr h)]

/-- The largest of finitely many values none of which is `⊤` and one of which is real is real. -/
theorem fold_max_real {n : ℕ} (G : Fin n → EReal) (hT : ∀ i, G i ≠ ⊤) (hb : ∃ i, G i ≠ ⊥) :
    ∃ μ : ℝ, Finset.fold max ⊥ G Finset.univ = (μ : EReal) := by
  have h1 : Finset.fold max ⊥ G Finset.univ = Finset.univ.sup G := rfl
  obtain ⟨i, hi⟩ := hb
  have hle : G i ≤ Finset.univ.sup G := Finset.le_sup (Finset.mem_univ i)
  have hne : (Finset.univ : Finset (Fin n)).Nonempty := ⟨i, Finset.mem_univ i⟩
  obtain ⟨k, -, hk⟩ := Finset.exists_mem_eq_sup Finset.univ hne G
  refine ⟨(Finset.univ.sup G).toReal, ?_⟩
  rw [h1, EReal.coe_toReal]
  · rw [hk]; exact hT k
  · intro h0; rw [h0] at hle; exact hi (le_bot_iff.mp hle)

/-- The softmax of the scores `s`, applied to the values `v`. -/
noncomputable def soft {n : ℕ} (s v : Fin n → ℝ) : ℝ := (∑ g, Real.exp (s g) * v g) / ∑ g, Real.exp (s g)

theorem exp_sum_pos {n : ℕ} [NeZero n] (s : Fin n → ℝ) : 0 < ∑ g, Real.exp (s g) :=
  Finset.sum_pos (fun g _ => Real.exp_pos _) ⟨0, Finset.mem_univ _⟩

/-- The softmax does not change when the scores are shifted. -/
theorem soft_shift {n : ℕ} [NeZero n] (s v : Fin n → ℝ) (μ : ℝ) :
    (∑ g, Real.exp (s g - μ) * v g) / ∑ g, Real.exp (s g - μ) = soft s v := by
  have h := exp_sum_pos s
  have e : ∀ g, Real.exp (s g - μ) = Real.exp (-μ) * Real.exp (s g) := fun g => by
    rw [← Real.exp_add]; congr 1; ring
  simp only [e, mul_assoc, ← Finset.mul_sum]
  unfold soft
  rw [mul_div_mul_left _ _ (Real.exp_pos _).ne']

/-- A sum over 128 rows of which only those of one group of 16 count. -/
theorem sum_group (a : ℕ) (ha : a < 8) (G : Fin 128 → ℝ) :
    (∑ x : Fin 128, if x.val / 16 = a then G x else 0) = ∑ g : Fin 16, G ⟨a * 16 + g.val, by omega⟩ := by
  rw [← Finset.sum_filter]
  refine Finset.sum_bij' (fun x _ => (⟨x.val % 16, by omega⟩ : Fin 16))
    (fun g _ => (⟨a * 16 + g.val, by omega⟩ : Fin 128)) ?_ ?_ ?_ ?_ ?_
  · intro x hx; simp
  · intro g hg; simp only [Finset.mem_filter, Finset.mem_univ, true_and]; omega
  · intro x hx; simp only [Finset.mem_filter, Finset.mem_univ, true_and] at hx; apply Fin.ext; simp; omega
  · intro g hg; apply Fin.ext; simp
  · intro x hx; simp only [Finset.mem_filter, Finset.mem_univ, true_and] at hx; congr 1; apply Fin.ext; simp; omega

/-- The softmax over 128 rows of which all but one group of 16 are masked away. -/
theorem soft_masked (S v : Fin 128 → ℝ) (M : Fin 128 → EReal) (a : ℕ) (ha : a < 8)
    (hM : ∀ x, M x = if x.val / 16 = a then 0 else ⊥) :
    Ideal.div (∑ x, Ideal.exp ((S x : EReal) + M x - Finset.fold max ⊥ (fun x => (S x : EReal) + M x) Finset.univ) * (v x : EReal))
      (∑ x, Ideal.exp ((S x : EReal) + M x - Finset.fold max ⊥ (fun x => (S x : EReal) + M x) Finset.univ))
    = (soft (fun g : Fin 16 => S ⟨a * 16 + g.val, by omega⟩) (fun g : Fin 16 => v ⟨a * 16 + g.val, by omega⟩) : EReal) := by
  obtain ⟨μ, hμ⟩ := fold_max_real (fun x => (S x : EReal) + M x)
    (fun i => by
      simp only [hM]; split
      · rw [add_zero]; exact EReal.coe_ne_top _
      · rw [EReal.add_bot]; exact bot_ne_top)
    ⟨⟨a * 16, by omega⟩, by
      simp only [hM]; rw [if_pos (by omega), add_zero]; exact EReal.coe_ne_bot _⟩
  have e : ∀ x, Ideal.exp ((S x : EReal) + M x - (μ : EReal))
      = ((if x.val / 16 = a then Real.exp (S x - μ) else 0 : ℝ) : EReal) := by
    intro x; rw [hM]; split
    · rw [add_zero, ← EReal.coe_sub, exp_coe]
    · rw [EReal.add_bot, EReal.bot_sub, exp_bot, EReal.coe_zero]
  simp only [hμ, e, ← EReal.coe_mul, ← coe_sum, ite_mul, zero_mul]
  rw [sum_group a ha, sum_group a ha]
  rw [div_coe_coe _ (exp_sum_pos (fun g : Fin 16 => S ⟨a * 16 + g.val, by omega⟩ - μ)).ne']
  exact congrArg _ (soft_shift (fun g : Fin 16 => S ⟨a * 16 + g.val, by omega⟩) (fun g : Fin 16 => v ⟨a * 16 + g.val, by omega⟩) μ)

/-- The softmax divided out before it meets the values. -/
theorem soft_plain (s v : Fin 16 → ℝ) (M : EReal) (hM : M = Finset.fold max ⊥ (fun x => (s x : EReal)) Finset.univ) :
    (∑ g, Ideal.div (Ideal.exp ((s g : EReal) - M)) (∑ g', Ideal.exp ((s g' : EReal) - M)) * (v g : EReal))
      = (soft s v : EReal) := by
  obtain ⟨μ, hμ⟩ := fold_max_real (fun x => (s x : EReal)) (fun i => EReal.coe_ne_top _) ⟨0, EReal.coe_ne_bot _⟩
  rw [hM, hμ]
  have h := exp_sum_pos (fun g => s g - μ)
  simp only [← EReal.coe_sub, exp_coe, ← coe_sum, div_coe_coe _ h.ne', ← EReal.coe_mul]
  rw [← soft_shift s v μ, Finset.sum_div]
  congr 1
  exact Finset.sum_congr rfl fun g _ => by ring

/-- A linear layer. -/
def lin {n m : ℕ} (x : Fin n → ℝ) (W : Fin n → Fin m → ℝ) (b : Fin m → ℝ) (j : Fin m) : ℝ := ∑ i, x i * W i j + b j

/-- A linear layer over the extended reals. -/
noncomputable def linE {n m : ℕ} (x : Fin n → EReal) (W : Fin n → Fin m → EReal) (b : Fin m → EReal) (j : Fin m) : EReal := ∑ i, x i * W i j + b j

/-- The weights. Those after the hidden layer, and the last biases, may be infinite. -/
structure Params where
  Wq : Fin 32 → Fin 32 → ℝ
  bq : Fin 32 → ℝ
  Wk : Fin 32 → Fin 32 → ℝ
  bk : Fin 32 → ℝ
  Wv : Fin 32 → Fin 32 → ℝ
  bv : Fin 32 → ℝ
  Wo : Fin 32 → Fin 32 → ℝ
  bo : Fin 32 → EReal
  W1 : Fin 32 → Fin 128 → ℝ
  b1 : Fin 128 → EReal
  W2 : Fin 128 → Fin 32 → EReal
  b2 : Fin 32 → EReal
  Wout : Fin 512 → Fin 256 → EReal
  bout : Fin 256 → EReal

/-- The scaled score of row `f` against row `g`. -/
noncomputable def score (P : Params) (X : Fin 16 → Fin 32 → ℝ) (f g : Fin 16) : ℝ :=
  (∑ e, lin (X f) P.Wq P.bq e * lin (X g) P.Wk P.bk e) / Real.sqrt 32

/-- The attention's output at row `f`. -/
noncomputable def att (P : Params) (X : Fin 16 → Fin 32 → ℝ) (f : Fin 16) (d : Fin 32) : ℝ :=
  soft (score P X f) (fun g => lin (X g) P.Wv P.bv d)

/-- The two layers after the attention, from its output at a row. -/
noncomputable def ffn (P : Params) (o : Fin 32 → ℝ) : Fin 32 → EReal :=
  linE (fun j => max (linE (linE (fun i => (o i : EReal)) (fun i k => (P.Wo i k : EReal)) P.bo) (fun k j => (P.W1 k j : EReal)) P.b1 j) 0) P.W2 P.b2

/-- The embedding of a token with rows `X`. -/
noncomputable def emb (P : Params) (X : Fin 16 → Fin 32 → ℝ) : Fin 256 → EReal :=
  linE (fun c : Fin 512 => ffn P (att P X ⟨c.val % 16, by omega⟩) ⟨c.val / 16, by omega⟩) P.Wout P.bout

/-- A row's offset may be taken through a linear layer beforehand. -/
theorem lin_add {n m : ℕ} (x y : Fin n → ℝ) (W : Fin n → Fin m → ℝ) (b : Fin m → ℝ) (j : Fin m) :
    ∑ i, x i * W i j + (∑ i, y i * W i j + b j) = lin (fun i => x i + y i) W b j := by
  unfold lin; simp only [add_mul, Finset.sum_add_distrib]; ring

/-- The same with the layer scaled. -/
theorem lin_add_scaled {n m : ℕ} (x y : Fin n → ℝ) (W : Fin n → Fin m → ℝ) (b : Fin m → ℝ) (j : Fin m) (r : ℝ) :
    ∑ i, x i * (W i j * r) + (∑ i, y i * W i j + b j) * r = lin (fun i => x i + y i) W b j * r := by
  rw [← lin_add]; simp only [← mul_assoc, ← Finset.sum_mul]; ring

/-- A real factor goes into a sum with a real. -/
theorem add_mul_real (r w : ℝ) (b : EReal) : ((r : EReal) + b) * (w : EReal) = ((r * w : ℝ) : EReal) + b * (w : EReal) := by
  induction b with
  | coe b => rw [← EReal.coe_add, ← EReal.coe_mul, ← EReal.coe_mul, ← EReal.coe_add, add_mul]
  | bot =>
    rw [EReal.add_bot]
    rcases lt_trichotomy w 0 with h | h | h
    · rw [EReal.bot_mul_coe_of_neg h, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, EReal.coe_add_top]

/-- Two linear layers in a row are one. -/
theorem lin_lin {n m l : ℕ} (x : Fin n → ℝ) (W : Fin n → Fin m → ℝ) (b : Fin m → EReal) (W' : Fin m → Fin l → ℝ) (b' : Fin l → EReal) (j : Fin l) :
    ((∑ i, x i * (∑ k, W i k * W' k j) : ℝ) : EReal) + (∑ k, b k * (W' k j : EReal) + b' j)
      = linE (linE (fun i => (x i : EReal)) (fun i k => (W i k : EReal)) b) (fun k j => (W' k j : EReal)) b' j := by
  unfold linE
  simp only [← EReal.coe_mul, ← coe_sum, add_mul_real, Finset.sum_add_distrib]
  rw [add_assoc]
  refine congrArg (· + _) (congrArg _ ?_)
  simp only [Finset.mul_sum, Finset.sum_mul]
  rw [Finset.sum_comm]
  simp only [mul_assoc]

/-- The columns of the last layer may be taken row by row. -/
theorem sum_columns (A : Fin 16 → Fin 32 → EReal) (W : Fin 512 → EReal) :
    ∑ c : Fin 512, A ⟨c.val / 32, by omega⟩ ⟨c.val % 32, by omega⟩ * W ⟨c.val % 32 * 16 + c.val / 32, by omega⟩
      = ∑ c : Fin 512, A ⟨c.val % 16, by omega⟩ ⟨c.val / 16, by omega⟩ * W c := by
  refine Finset.sum_bij' (fun c _ => (⟨c.val % 32 * 16 + c.val / 32, by omega⟩ : Fin 512))
    (fun c _ => (⟨c.val % 16 * 32 + c.val / 16, by omega⟩ : Fin 512)) ?_ ?_ ?_ ?_ ?_
  · intro c _; simp
  · intro c _; simp
  · intro c _; apply Fin.ext; simp only; omega
  · intro c _; apply Fin.ext; simp only; omega
  · intro c _
    have h1 : (c.val % 32 * 16 + c.val / 32) % 16 = c.val / 32 := by omega
    have h2 : (c.val % 32 * 16 + c.val / 32) / 16 = c.val % 32 := by omega
    simp only [h1, h2]

end Cert.Maths
-- ==== Proof.Inputs.lean ====
module

public import Idealize.ShloMosaic.Lib.Pointwise
public import proofs.«01_k».proof.Proof.Maths

/-! # What the computation is entered with -/

@[expose] public section

open Idealize Idealize.SL Idealize.ShloMosaic

namespace Cert.Maths

/-- The arrays hold the real inputs `x`, the marks `o` and the weights `P`. -/
structure Holds (P : Params) (x : Fin 8 → Fin 2048 → Fin 512 → ℝ) (o : Fin 8 → Fin 2048 → Fin 2)
    (a0 : FVec Ideal ⟨3, ![8, 2048, 512]⟩ .f32) (a1 : IVec ⟨2, ![8, 2048]⟩ 32)
    (a3 : FVec Ideal ⟨2, ![32, 32]⟩ .f32) (a4 : FVec Ideal ⟨1, ![32]⟩ .f32) (a5 : FVec Ideal ⟨2, ![32, 32]⟩ .f32)
    (a6 : FVec Ideal ⟨1, ![32]⟩ .f32) (a7 : FVec Ideal ⟨2, ![32, 32]⟩ .f32) (a8 : FVec Ideal ⟨1, ![32]⟩ .f32)
    (a9 : FVec Ideal ⟨2, ![32, 32]⟩ .f32) (a10 : FVec Ideal ⟨1, ![32]⟩ .f32) (a11 : FVec Ideal ⟨2, ![32, 128]⟩ .f32)
    (a12 : FVec Ideal ⟨1, ![128]⟩ .f32) (a13 : FVec Ideal ⟨2, ![128, 32]⟩ .f32) (a14 : FVec Ideal ⟨1, ![32]⟩ .f32)
    (a15 : FVec Ideal ⟨2, ![512, 256]⟩ .f32) (a16 : FVec Ideal ⟨1, ![256]⟩ .f32) : Prop where
  x : ∀ a b c, a0 (ix3 a b c) = (x a b c : EReal)
  o : ∀ b t, a1 (ix2 b t) = BitVec.ofNat 32 (o b t).val
  Wq : ∀ i j, a3 (ix2 i j) = (P.Wq i j : EReal)
  bq : ∀ j, a4 (ix1 j) = (P.bq j : EReal)
  Wk : ∀ i j, a5 (ix2 i j) = (P.Wk i j : EReal)
  bk : ∀ j, a6 (ix1 j) = (P.bk j : EReal)
  Wv : ∀ i j, a7 (ix2 i j) = (P.Wv i j : EReal)
  bv : ∀ j, a8 (ix1 j) = (P.bv j : EReal)
  Wo : ∀ i j, a9 (ix2 i j) = (P.Wo i j : EReal)
  bo : ∀ j, a10 (ix1 j) = P.bo j
  W1 : ∀ i j, a11 (ix2 i j) = (P.W1 i j : EReal)
  b1 : ∀ j, a12 (ix1 j) = P.b1 j
  W2 : ∀ i j, a13 (ix2 i j) = P.W2 i j
  b2 : ∀ j, a14 (ix1 j) = P.b2 j
  Wout : ∀ i j, a15 (ix2 i j) = P.Wout i j
  bout : ∀ j, a16 (ix1 j) = P.bout j

/-- A token's 16 rows of 32, the positions' table `pe` added. -/
def rows (x : Fin 8 → Fin 2048 → Fin 512 → ℝ) (pe : Fin 16 → Fin 32 → ℝ) (t : Fin 16384) (f : Fin 16) (e : Fin 32) : ℝ :=
  x ⟨t.val / 2048, by omega⟩ ⟨t.val % 2048, by omega⟩ ⟨e.val * 16 + f.val, by omega⟩ + pe f e

end Cert.Maths
-- ==== Proof.KernelIdeal.HostA.lean ====
module

public import proofs.«01_k».proof.Proof.Gen.KernelIdeal.Regions
public import proofs.«01_k».proof.Proof.Gen.ReferenceIdeal.Read
public import proofs.«01_k».proof.Proof.Inputs
public import Idealize.ShloMosaic.Lib.Claim

/-! # What the host computes before the first call, read at an index -/

@[expose] public section
set_option maxRecDepth 16384
open Idealize Idealize.SL Idealize.ShloMosaic
namespace Cert.KernelIdeal.HostA
open Cert.KernelIdeal Cert.KernelIdeal.Gen Cert.Maths Idealize.ShloMosaic.TcCoe

variable (V : Valuation τ sig (Elt Ideal))

/-- A buffer before the first call. -/
noncomputable abbrev A (b : Ref sig .tc) := StableHlo.after (hostOps0 (F := Ideal)) V (Proc.devRef .tc b)

/-- The scores' scale. -/
noncomputable def scale : FVec Ideal S_ .f32 := Host.divf (constant S_ .f32 0x3F800000#32) (Host.sqrt (constant S_ .f32 0x42000000#32))

/-- The positions' table. -/
noncomputable def pe : FVec Ideal S16x32 .f32 :=
  addf (mulf (Cert.ReferenceIdeal.Read.val_main_v25 (F := Ideal)) (broadcastInDim S16x32 ![] bcast_S_S16x32 (constant S_ .f32 0x3C23D70A#32)))
    (broadcastInDim S16x32 ![] bcast_S_S16x32 (constant S_ .f32 0x3C23D70A#32))

theorem pe_at (f : Fin 16) (e : Fin 32) : pe (ix2 f e)
    = Cert.ReferenceIdeal.Read.val_main_v25 (F := Ideal) (ix2 f e) * Ideal.ofBits .f32 0x3C23D70A#32 + Ideal.ofBits .f32 0x3C23D70A#32 := by
  unfold pe
  pointwise

/-- The positions' table through a dense layer. -/
noncomputable def dense (T : FVec Ideal S16x32 .f32) (W : FVec Ideal S32x32 .f32) (b : FVec Ideal S32 .f32) : FVec Ideal S16x32 .f32 :=
  addf (Host.dotGeneral dot_S16x32_S32x32_S16x32_1_0_0_1_n_n none T W)
    (broadcastInDim S16x32 ![0, 1] bcast_S1x32_S16x32_0_1 (broadcastInDim S1x32 ![1] bcast_S32_S1x32_1 b))

/-- Eight copies of it, one below the other. -/
noncomputable def tiled (D : FVec Ideal S16x32 .f32) : FVec Ideal S128x32 .f32 :=
  shapeCast S128x32 (broadcastInDim S8x16x1x32 ![0, 1, 2, 3] bcast_S1x16x1x32_S8x16x1x32_0_1_2_3
    (shapeCast S1x16x1x32 D shapeCasts_S16x32_S1x16x1x32)) shapeCasts_S8x16x1x32_S128x32

theorem tiled_dense_at (T : FVec Ideal S16x32 .f32) (W : FVec Ideal S32x32 .f32) (b : FVec Ideal S32 .f32) (r : Fin 128) (j : Fin 32) :
    tiled (dense T W b) (ix2 r j) = ∑ k : Fin 32, T (ix2 ⟨r.val % 16, by omega⟩ k) * W (ix2 k j) + b (ix1 j) := by
  pointwise [tiled, dense]

theorem tiled_scaled_at (D : FVec Ideal S16x32 .f32) (r : Fin 128) (j : Fin 32) :
    tiled (mulf D (broadcastInDim S16x32 ![] bcast_S_S16x32 scale)) (ix2 r j) = tiled D (ix2 r j) * scale ix0 := by
  pointwise [tiled]

theorem pe_eq : A V main_call0_v31 = pe := by
  unfold A
  entry_read
  simp only [StableHlo.TRef.ofBuf_toBuf]
  rfl

theorem bq_eq : A V main_call0_v45 = tiled (mulf (dense pe (V (Proc.devRef .tc main_arg3)) (V (Proc.devRef .tc main_arg4)))
    (broadcastInDim S16x32 ![] bcast_S_S16x32 scale)) := by
  unfold A
  entry_read
  simp only [StableHlo.TRef.ofBuf_toBuf]
  rfl

theorem bk_eq : A V main_call0_v52 = tiled (dense pe (V (Proc.devRef .tc main_arg5)) (V (Proc.devRef .tc main_arg6))) := by
  unfold A
  entry_read
  simp only [StableHlo.TRef.ofBuf_toBuf]
  rfl

theorem bv_eq : A V main_call0_v59 = tiled (dense pe (V (Proc.devRef .tc main_arg7)) (V (Proc.devRef .tc main_arg8))) := by
  unfold A
  entry_read
  simp only [StableHlo.TRef.ofBuf_toBuf]
  rfl

/-- The tokens' rows, eight tokens to a group of 128 rows. -/
noncomputable def rowsOf (x : FVec Ideal S8x2048x512 .f32) : FVec Ideal S2048x128x32 .bf16 :=
  truncf .bf16 (shapeCast S2048x128x32 (transpose S16384x16x32 [0, 2, 1] (shapeCast S16384x32x16 x shapeCasts_S8x2048x512_S16384x32x16)
    transposes_S16384x32x16_S16384x16x32_0_2_1) shapeCasts_S16384x16x32_S2048x128x32) bitsLt_bf16_f32

theorem rowsOf_at (x : FVec Ideal S8x2048x512 .f32) (g : Fin 2048) (r : Fin 128) (e : Fin 32) :
    rowsOf x (ix3 g r e) = x (ix3 ⟨(g.val * 8 + r.val / 16) / 2048, by omega⟩ ⟨(g.val * 8 + r.val / 16) % 2048, by omega⟩ ⟨e.val * 16 + r.val % 16, by omega⟩) := by
  pointwise [rowsOf]

theorem x_eq : A V main_call0_v3 = rowsOf (V (Proc.devRef .tc main_arg0)) := by
  unfold A
  entry_read
  rfl

/-- A weight scaled. -/
noncomputable def scaled (W : FVec Ideal S32x32 .f32) : FVec Ideal S32x32 .bf16 :=
  truncf .bf16 (mulf W (broadcastInDim S32x32 ![] bcast_S_S32x32 scale)) bitsLt_bf16_f32

theorem scaled_at (W : FVec Ideal S32x32 .f32) (i j : Fin 32) : scaled W (ix2 i j) = W (ix2 i j) * scale ix0 := by
  pointwise [scaled]

theorem Wq_eq : A V main_call0_v36 = scaled (V (Proc.devRef .tc main_arg3)) := by
  unfold A
  entry_read
  rfl

theorem Wk_eq : A V main_call0_v69 = (truncf .bf16 (V (Proc.devRef .tc main_arg5) : FVec Ideal S32x32 .f32) bitsLt_bf16_f32 : FVec Ideal S32x32 .bf16) := by
  unfold A
  entry_read
  rfl

theorem Wv_eq : A V main_call0_v70 = (truncf .bf16 (V (Proc.devRef .tc main_arg7) : FVec Ideal S32x32 .f32) bitsLt_bf16_f32 : FVec Ideal S32x32 .bf16) := by
  unfold A
  entry_read
  rfl

theorem W2_eq : A V main_call0_v71 = (truncf .bf16 (V (Proc.devRef .tc main_arg13) : FVec Ideal S128x32 .f32) bitsLt_bf16_f32 : FVec Ideal S128x32 .bf16) := by
  unfold A
  entry_read
  rfl

/-- Two weights multiplied. -/
noncomputable def prodW (U : FVec Ideal S32x32 .f32) (W : FVec Ideal S32x128 .f32) : FVec Ideal S32x128 .bf16 :=
  truncf .bf16 (Host.dotGeneral dot_S32x32_S32x128_S32x128_1_0_0_1_n_n none U W) bitsLt_bf16_f32

theorem prodW_at (U : FVec Ideal S32x32 .f32) (W : FVec Ideal S32x128 .f32) (i : Fin 32) (j : Fin 128) :
    prodW U W (ix2 i j) = ∑ k : Fin 32, U (ix2 i k) * W (ix2 k j) := by
  pointwise [prodW]

theorem WoW1_eq : A V main_call0_v61 = prodW (V (Proc.devRef .tc main_arg9)) (V (Proc.devRef .tc main_arg11)) := by
  unfold A
  entry_read
  rfl

/-- The offset of two layers taken at once. -/
noncomputable def biasW (u : FVec Ideal S32 .f32) (W : FVec Ideal S32x128 .f32) (b : FVec Ideal S128 .f32) : FVec Ideal S1x128 .f32 :=
  shapeCast S1x128 (addf (Host.dotGeneral dot_S32_S32x128_S128_0_0_n_1_n_n none u W) b) shapeCasts_S128_S1x128

theorem biasW_at (u : FVec Ideal S32 .f32) (W : FVec Ideal S32x128 .f32) (b : FVec Ideal S128 .f32) (z : Fin 1) (j : Fin 128) :
    biasW u W b (ix2 z j) = ∑ k : Fin 32, u (ix1 k) * W (ix2 k j) + b (ix1 j) := by
  pointwise [biasW]

theorem b1_eq : A V main_call0_v64 = biasW (V (Proc.devRef .tc main_arg10)) (V (Proc.devRef .tc main_arg11)) (V (Proc.devRef .tc main_arg12)) := by
  unfold A
  entry_read
  rfl

/-- The last layer's weight, its rows taken 32 to a feature. -/
noncomputable def regroup (W : FVec Ideal S512x256 .f32) : FVec Ideal S512x256 .bf16 :=
  truncf .bf16 (shapeCast S512x256 (transpose S16x32x256 [1, 0, 2] (shapeCast S32x16x256 W shapeCasts_S512x256_S32x16x256)
    transposes_S32x16x256_S16x32x256_1_0_2) shapeCasts_S16x32x256_S512x256) bitsLt_bf16_f32

theorem regroup_at (W : FVec Ideal S512x256 .f32) (c : Fin 512) (j : Fin 256) :
    regroup W (ix2 c j) = W (ix2 ⟨c.val % 32 * 16 + c.val / 32, by omega⟩ j) := by
  pointwise [regroup]

theorem Wout_eq : A V main_call0_v68 = regroup (V (Proc.devRef .tc main_arg15)) := by
  unfold A
  entry_read
  rfl

theorem b2_eq : A V main_call0_v72 = (shapeCast S1x32 (V (Proc.devRef .tc main_arg14) : FVec Ideal S32 .f32) shapeCasts_S32_S1x32 : FVec Ideal S1x32 .f32) := by
  unfold A
  entry_read
  rfl

theorem bout_eq : A V main_call0_v73 = (shapeCast S1x256 (V (Proc.devRef .tc main_arg16) : FVec Ideal S256 .f32) shapeCasts_S256_S1x256 : FVec Ideal S1x256 .f32) := by
  unfold A
  entry_read
  rfl

end Cert.KernelIdeal.HostA
-- ==== Proof.KernelIdeal.Payload.lean ====
module

public import proofs.«01_k».proof.Proof.Gen.KernelIdeal.Skeleton
public import proofs.«01_k».proof.Proof.Maths
public import Idealize.ShloMosaic.Lib.Pointwise

/-! # The payloads of the first call, read at an index -/

@[expose] public section

set_option maxRecDepth 16384

open Idealize Idealize.SL Idealize.ShloMosaic

namespace Cert.KernelIdeal.Payload

open Cert.KernelIdeal Cert.KernelIdeal.Gen Cert.Maths

theorem pay4_at (x : Vec Ideal S64x128x32 .bf16) (w : Vec Ideal S32x32 .bf16) (b : Vec Ideal S128x32 .f32)
    (g : Fin 64) (r : Fin 128) (d : Fin 32) :
    k0_pay4 (F := Ideal) x w b (ix3 g r d) = ∑ k, x (ix3 g r k) * w (ix2 k d) + b (ix2 r d) := by
  pointwise [k0_pay4, k0_pay3]

theorem pay5_at (x : Vec Ideal S64x128x32 .bf16) (w : Vec Ideal S32x32 .bf16) (b : Vec Ideal S128x32 .f32)
    (w' : Vec Ideal S32x32 .bf16) (b' : Vec Ideal S128x32 .f32) (g : Fin 64) (r s : Fin 128) :
    k0_pay5 (F := Ideal) x w b w' b' (ix3 g r s)
      = ∑ d, (∑ k, x (ix3 g r k) * w (ix2 k d) + b (ix2 r d)) * (∑ k, x (ix3 g s k) * w' (ix2 k d) + b' (ix2 s d)) := by
  pointwise [k0_pay5, k0_pay3]

/-- The printed floor division of a row number by 16. -/
theorem row_group (r : Fin 128) :
    (Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 ↑r) 16#32) 0#32))
          (IntOp.subi (IntOp.divsi ArithUnit.vector (BitVec.ofNat 32 ↑r) 16#32) 1#32)
          (IntOp.divsi ArithUnit.vector (BitVec.ofNat 32 ↑r) 16#32)) = BitVec.ofNat 32 (r.val / 16) := by
  revert r; decide +kernel

theorem group_eq (a b : Fin 128) :
    IntOp.cmpi CmpIPredicate.eq (BitVec.ofNat 32 (a.val / 16)) (BitVec.ofNat 32 (b.val / 16)) = BitVec.ofBool (decide (b.val / 16 = a.val / 16)) := by
  have h : ∀ a b : Fin 8, IntOp.cmpi CmpIPredicate.eq (BitVec.ofNat 32 a.val) (BitVec.ofNat 32 b.val)
      = BitVec.ofBool (decide (b.val = a.val)) := by decide +kernel
  exact h ⟨a.val / 16, by omega⟩ ⟨b.val / 16, by omega⟩

/-- The mask: `0` within a token's own 16 rows, `⊥` elsewhere. -/
theorem pay9_at (r s : Fin 128) (z : Fin 1) :
    k0_pay9 (F := Ideal) (Idealize.ShloMosaic.iota .tc S128x128 32 [0] iota_S128x128_d0_w32)
      (Idealize.ShloMosaic.iota .tc S128x128 32 [1] iota_S128x128_d1_w32) 16#32 k0_pay6 k0_pay7 k0_pay8 (ix3 z r s)
    = if s.val / 16 = r.val / 16 then 0 else ⊥ := by
  pointwise [k0_pay9, k0_pay6, k0_pay7, k0_pay8]
  rw [row_group, row_group, group_eq]
  by_cases h : s.val / 16 = r.val / 16
  · rw [if_pos h, decide_eq_true h]; rfl
  · rw [if_neg h, decide_eq_false h]; rfl

theorem pay10_at (v25 : FVec Ideal S64x128x32 .f32) (v28 : FVec Ideal S64x128x128 .f32) (v83 : FVec Ideal S1x128x128 .f32)
    (v99 : Vec Ideal S32x128 .bf16) (v102 : Vec Ideal S1x128 .f32) (v110 : Vec Ideal S128x32 .bf16) (v113 : Vec Ideal S1x32 .f32)
    (t : Fin 512) (f : Fin 16) (d : Fin 32)
    (S : Fin 128 → ℝ) (v : Fin 32 → Fin 128 → ℝ) (w1 : Fin 32 → Fin 128 → ℝ) (b1 : Fin 128 → EReal)
    (w2 : Fin 128 → Fin 32 → EReal) (b2 : Fin 32 → EReal)
    (hS : ∀ x, v28 (ix3 ⟨t.val / 8, by omega⟩ ⟨t.val % 8 * 16 + f.val, by omega⟩ x) = (S x : EReal))
    (hv : ∀ e x, v25 (ix3 ⟨t.val / 8, by omega⟩ x e) = (v e x : EReal))
    (hM : ∀ (r s : Fin 128), v83 (ix3 0 r s) = if s.val / 16 = r.val / 16 then 0 else ⊥)
    (h1 : ∀ i j, v99 (ix2 i j) = (w1 i j : EReal)) (hb1 : ∀ j, v102 (ix2 0 j) = b1 j)
    (h2 : ∀ i j, v110 (ix2 i j) = w2 i j) (hb2 : ∀ j, v113 (ix2 0 j) = b2 j) :
    k0_pay10 (F := Ideal) v25 v28 v83 v99 v102 v110 v113 (ix3 t f d)
      = linE (fun j => max (((∑ e, soft (fun g : Fin 16 => S ⟨t.val % 8 * 16 + g.val, by omega⟩)
            (fun g : Fin 16 => v e ⟨t.val % 8 * 16 + g.val, by omega⟩) * w1 e j : ℝ) : EReal) + b1 j) 0) w2 b2 d := by
  pointwise [k0_pay10]
  have h0 : Ideal.ofBits FTy.f32 4286578688#32 = (⊥ : EReal) := by
    simp [Ideal.ofBits, Ideal.ieee]
  simp only [h0, hS, hv, h1, hb1, h2, hb2]
  have hs : ∀ e, _ := fun e => soft_masked S (v e) (fun x => v83 (ix3 0 ⟨t.val % 8 * 16 + f.val, by omega⟩ x)) (t.val % 8) (by omega)
    (fun x => by rw [hM]; have : (t.val % 8 * 16 + f.val) / 16 = t.val % 8 := by omega
                 simp only [this])
  simp only [hs]
  simp only [← EReal.coe_mul, ← coe_sum]
  rfl

/-- One of the 16 row slices laid side by side. -/
theorem slice_at {α : Type} (A : S512x16x32.Idx → α) (k : ℕ) (hk : k < 16) (hs : S512x16x32.Slices ![0, k, 0] S512x1x32)
    (hc : S512x1x32.ShapeCasts S512x32) :
    shapeCast S512x32 (extractStridedSlice S512x1x32 ![0, k, 0] A hs) hc
      = fun i : S512x32.Idx => A (ix3 (i 0) ⟨k, hk⟩ (i 1)) := by
  funext i
  idx_vars i
  pointwise

theorem pay17_at (A : FVec Ideal S512x16x32 .f32) (w : Vec Ideal S512x256 .bf16) (b : Vec Ideal S1x256 .f32) (t : Fin 512) (e : Fin 256) :
    k0_pay17 (F := Ideal) A
      (shapeCast S512x32 (extractStridedSlice S512x1x32 ![0, 0, 0] A slices_S512x16x32_o0_0_0_S512x1x32) shapeCasts_S512x1x32_S512x32)
      (shapeCast S512x32 (extractStridedSlice S512x1x32 ![0, 1, 0] A slices_S512x16x32_o0_1_0_S512x1x32) shapeCasts_S512x1x32_S512x32)
      (shapeCast S512x32 (extractStridedSlice S512x1x32 ![0, 2, 0] A slices_S512x16x32_o0_2_0_S512x1x32) shapeCasts_S512x1x32_S512x32)
      (shapeCast S512x32 (extractStridedSlice S512x1x32 ![0, 3, 0] A slices_S512x16x32_o0_3_0_S512x1x32) shapeCasts_S512x1x32_S512x32)
      (shapeCast S512x32 (extractStridedSlice S512x1x32 ![0, 4, 0] A slices_S512x16x32_o0_4_0_S512x1x32) shapeCasts_S512x1x32_S512x32)
      (extractStridedSlice S512x1x32 ![0, 5, 0] A slices_S512x16x32_o0_5_0_S512x1x32) w b (ix2 t e)
    = ∑ c : Fin 512, A (ix3 t ⟨c.val / 32, by omega⟩ ⟨c.val % 32, by omega⟩) * w (ix2 c e) + b (ix2 0 e) := by
  have hs : ∀ n : Fin 16, S512x16x32.Slices ![0, n.val, 0] S512x1x32 := by decide
  have hcat : ∀ (h : _), concatenate S512x512 1 (List.ofFn fun n : Fin 16 => (⟨S512x32,
        shapeCast S512x32 (extractStridedSlice S512x1x32 ![0, n.val, 0] A (hs n)) shapeCasts_S512x1x32_S512x32⟩ : (s : Shape) × (s.Idx → Ideal .f32))) h
      = fun j : S512x512.Idx => A (ix3 (j 0) ⟨(j 1).val / 32, by have := (j 1).isLt; simp at this; omega⟩ ⟨(j 1).val % 32, by omega⟩) := by
    intro h
    funext j
    refine (concatenate_ofFn_apply (t := S512x512) (s₁ := S512x32) 1 (N := 16) _ h rfl 32 rfl j
      ⟨(j 1).val / 32, by have := (j 1).isLt; simp at this; omega⟩ rfl (ix2 (j 0) ⟨(j 1).val % 32, by omega⟩) rfl
      (fun b hb => by revert hb; fin_cases b <;> simp)).trans ?_
    exact congrFun (slice_at A _ (by have := (j 1).isLt; simp at this ⊢; omega) _ _) _
  refine (congrArg (fun X : FVec Ideal S512x512 .f32 => addf (matmul dot_S512x512_S512x256_S512x256_1_0_0_1_n_n none (truncf .bf16 X bitsLt_bf16_f32)
      (shapeCast S512x256 w shapeCasts_S512x256_S512x256) (constant S512x256 .f32 0x00000000#32))
      (broadcastTo S512x256 (shapeCast S1x256 b shapeCasts_S1x256_S1x256) broadcasts_S1x256_S512x256) (ix2 t e))
    (hcat concatenates_S512x32_S512x32_S512x32_S512x32_S512x32_S512x32_S512x32_S512x32_S512x32_S512x32_S512x32_S512x32_S512x32_S512x32_S512x32_S512x32_S512x512_d1)).trans ?_
  pointwise

end Cert.KernelIdeal.Payload
-- ==== Proof.KernelIdeal.StageAValue.lean ====
module

public import proofs.«01_k».proof.Proof.KernelIdeal.StageA
public import proofs.«01_k».proof.Proof.KernelIdeal.Payload
public import Idealize.ShloMosaic.Lib.Pipeline.ValueKit

/-! # What the first call leaves in its arrays -/

@[expose] public section

set_option maxRecDepth 16384

open Idealize Idealize.SL Idealize.ShloMosaic

namespace Cert.KernelIdeal.StageA

open Cert.KernelIdeal Cert.KernelIdeal.Gen Cert.Maths Idealize.ShloMosaic.TcCoe

variable (V : (c : Dev nD) → (b : Ref sig .tc) → Buf (Elt Ideal) ((c : Thread nD τ).loc b))

/-- The rows of a block of 512 tokens after attention and the two dense layers. -/
noncomputable def hid (x0 : Vec Ideal S64x128x32 .bf16) (x1 x2 x3 : Vec Ideal S32x32 .bf16) (x4 : Vec Ideal S32x128 .bf16)
    (x5 : Vec Ideal S128x32 .bf16) (x7 x8 x9 : Vec Ideal S128x32 .f32) (x10 : Vec Ideal S1x128 .f32)
    (x11 : Vec Ideal S1x32 .f32) : FVec Ideal S512x16x32 .f32 :=
  k0_pay10 (k0_pay4 x0 x3 x9) (k0_pay5 x0 x1 x7 x2 x8)
    (k0_pay9 (Idealize.ShloMosaic.iota .tc S128x128 32 [0] iota_S128x128_d0_w32)
      (Idealize.ShloMosaic.iota .tc S128x128 32 [1] iota_S128x128_d1_w32) 16#32 k0_pay6 k0_pay7 k0_pay8) x4 x10 x5 x11

/-- A payload of the hidden rows and their first six slices. -/
abbrev ofRows {β : Type} (f : FVec Ideal S512x16x32 .f32 → FVec Ideal S512x32 .f32 → FVec Ideal S512x32 .f32 → FVec Ideal S512x32 .f32 →
    FVec Ideal S512x32 .f32 → FVec Ideal S512x32 .f32 → FVec Ideal S512x1x32 .f32 → β) (A : FVec Ideal S512x16x32 .f32) : β :=
  f A
      (shapeCast S512x32 (extractStridedSlice S512x1x32 ![0, 0, 0] A slices_S512x16x32_o0_0_0_S512x1x32) shapeCasts_S512x1x32_S512x32)
      (shapeCast S512x32 (extractStridedSlice S512x1x32 ![0, 1, 0] A slices_S512x16x32_o0_1_0_S512x1x32) shapeCasts_S512x1x32_S512x32)
      (shapeCast S512x32 (extractStridedSlice S512x1x32 ![0, 2, 0] A slices_S512x16x32_o0_2_0_S512x1x32) shapeCasts_S512x1x32_S512x32)
      (shapeCast S512x32 (extractStridedSlice S512x1x32 ![0, 3, 0] A slices_S512x16x32_o0_3_0_S512x1x32) shapeCasts_S512x1x32_S512x32)
      (shapeCast S512x32 (extractStridedSlice S512x1x32 ![0, 4, 0] A slices_S512x16x32_o0_4_0_S512x1x32) shapeCasts_S512x1x32_S512x32)
      (extractStridedSlice S512x1x32 ![0, 5, 0] A slices_S512x16x32_o0_5_0_S512x1x32)

/-- The hidden rows of the block of 512 tokens a point holds. -/
noncomputable def blockHid (c : Dev nD) (t : Fin cfg0.N) : FVec Ideal S512x16x32 .f32 :=
  hid (iblk V c 0 t) (iblk V c 1 t) (iblk V c 2 t) (iblk V c 3 t) (iblk V c 4 t) (iblk V c 5 t) (iblk V c 7 t) (iblk V c 8 t)
    (iblk V c 9 t) (iblk V c 10 t) (iblk V c 11 t)

/-- The embedding of the block of 512 tokens a point holds. -/
noncomputable def blockEmb (c : Dev nD) (t : Fin cfg0.N) : FVec Ideal S512x256 .f32 :=
  ofRows (k0_pay17 (F := Ideal)) (blockHid V c t) (iblk V c 6 t) (iblk V c 12 t)

/-- Its sum. -/
noncomputable def blockSum (c : Dev nD) (t : Fin cfg0.N) : FVec Ideal S1x1 .f32 :=
  ofRows (k0_pay19 (F := Ideal)) (blockHid V c t) (iblk V c 6 t) (iblk V c 12 t)

/-- Its sum of squares. -/
noncomputable def blockSq (c : Dev nD) (t : Fin cfg0.N) : FVec Ideal S1x1 .f32 :=
  ofRows (k0_pay20 (F := Ideal)) (blockHid V c t) (iblk V c 6 t) (iblk V c 12 t)

theorem blockSum_at (c : Dev nD) (t : Fin cfg0.N) (j : S1x1.Idx) : blockSum V c t j = ∑ a, ∑ e, blockEmb V c t (ix2 a e) := by
  idx_vars j
  pointwise [blockSum, blockEmb, k0_pay19]

theorem blockSq_at (c : Dev nD) (t : Fin cfg0.N) (j : S1x1.Idx) :
    blockSq V c t j = ∑ a, ∑ e, blockEmb V c t (ix2 a e) * blockEmb V c t (ix2 a e) := by
  idx_vars j
  pointwise [blockSq, blockEmb, k0_pay20]

/-- A whole block read back from what it was filled with. -/
theorem ld_whole {sg : RefSig} {κ : Kind} {sp : Space} {S : Shape} {e : EltTy} {m : Memref sg κ sp S e} (h : m.IsWhole)
    (X : S.Idx → Elt Ideal e) {off : Fin S.rank → Nat} (inb : ∀ a, off a + S.size a ≤ S.size a) (h0 : ∀ a, off a = 0) :
    View.readAt (Elt Ideal) m.view (Rect.unit off S.size inb).toLoadRect (h.unread X) = X := by
  rw [View.readAt_eq_ld]
  exact (View.ld_unit_lit' inb _ h0).trans (h.read_unread X)

set_option maxHeartbeats 2000000 in
theorem outs_A (c : Dev nD) (t : Fin cfg0.N) (h0 : t.val % 32 = 0) (h1 : ¬1 ≤ t.val) :
    outsAt0 V c t.val t.isLt = (truncf .bf16 (blockEmb V c t) bitsLt_bf16_f32, blockSum V c t, blockSq V c t) := by
  rw [outsAt0_A V c t h0 h1]
  refine Prod.ext ?_ (Prod.ext ?_ ?_)
  all_goals
    frame_open
    simp (disch := decide) only [View.read_writes_junk_eq_canon, View.canon_cons_unit_lit']
    rw [ld_whole (hs0_0 t) (iblk V c 0 t) inb_S64x128x32_S64x128x32_0_0_0 (by decide),
        ld_whole (hs0_1 t) (iblk V c 1 t) inb_S32x32_S32x32_0_0 (by decide),
        ld_whole (hs0_2 t) (iblk V c 2 t) inb_S32x32_S32x32_0_0 (by decide),
        ld_whole (hs0_3 t) (iblk V c 3 t) inb_S32x32_S32x32_0_0 (by decide),
        ld_whole (hs0_4 t) (iblk V c 4 t) inb_S32x128_S32x128_0_0 (by decide),
        ld_whole (hs0_5 t) (iblk V c 5 t) inb_S128x32_S128x32_0_0 (by decide),
        ld_whole (hs0_6 t) (iblk V c 6 t) inb_S512x256_S512x256_0_0 (by decide),
        ld_whole (hs0_7 t) (iblk V c 7 t) inb_S128x32_S128x32_0_0 (by decide),
        ld_whole (hs0_8 t) (iblk V c 8 t) inb_S128x32_S128x32_0_0 (by decide),
        ld_whole (hs0_9 t) (iblk V c 9 t) inb_S128x32_S128x32_0_0 (by decide),
        ld_whole (hs0_10 t) (iblk V c 10 t) inb_S1x128_S1x128_0_0 (by decide),
        ld_whole (hs0_11 t) (iblk V c 11 t) inb_S1x32_S1x32_0_0 (by decide),
        ld_whole (hs0_12 t) (iblk V c 12 t) inb_S1x256_S1x256_0_0 (by decide)]
    rfl

set_option maxHeartbeats 2000000 in
theorem outs_B (c : Dev nD) (t : Fin cfg0.N) (h0 : ¬t.val % 32 = 0) (h1 : 1 ≤ t.val) :
    outsAt0 V c t.val t.isLt = (truncf .bf16 (blockEmb V c t) bitsLt_bf16_f32,
      k0_pay1 (blockSum V c t) (outsAt0 V c (t.val - 1) (by have := t.isLt; omega)).2.1,
      k0_pay2 (blockSq V c t) (outsAt0 V c (t.val - 1) (by have := t.isLt; omega)).2.2) := by
  rw [outsAt0_B V c t h0 h1]
  refine Prod.ext ?_ (Prod.ext ?_ ?_)
  all_goals
    frame_open
    simp (disch := decide) only [View.read_writes_junk_eq_canon, View.canon_cons_unit_lit']
    rw [ld_whole (hs0_0 t) (iblk V c 0 t) inb_S64x128x32_S64x128x32_0_0_0 (by decide),
        ld_whole (hs0_1 t) (iblk V c 1 t) inb_S32x32_S32x32_0_0 (by decide),
        ld_whole (hs0_2 t) (iblk V c 2 t) inb_S32x32_S32x32_0_0 (by decide),
        ld_whole (hs0_3 t) (iblk V c 3 t) inb_S32x32_S32x32_0_0 (by decide),
        ld_whole (hs0_4 t) (iblk V c 4 t) inb_S32x128_S32x128_0_0 (by decide),
        ld_whole (hs0_5 t) (iblk V c 5 t) inb_S128x32_S128x32_0_0 (by decide),
        ld_whole (hs0_6 t) (iblk V c 6 t) inb_S512x256_S512x256_0_0 (by decide),
        ld_whole (hs0_7 t) (iblk V c 7 t) inb_S128x32_S128x32_0_0 (by decide),
        ld_whole (hs0_8 t) (iblk V c 8 t) inb_S128x32_S128x32_0_0 (by decide),
        ld_whole (hs0_9 t) (iblk V c 9 t) inb_S128x32_S128x32_0_0 (by decide),
        ld_whole (hs0_10 t) (iblk V c 10 t) inb_S1x128_S1x128_0_0 (by decide),
        ld_whole (hs0_11 t) (iblk V c 11 t) inb_S1x32_S1x32_0_0 (by decide),
        ld_whole (hs0_12 t) (iblk V c 12 t) inb_S1x256_S1x256_0_0 (by decide)]
    first
    | rfl
    | (rw [ld_whole _ _ inb_S1x1_S1x1_0_0 (by decide)]; rfl)

theorem pay1_at (a b : FVec Ideal S1x1 .f32) (j : S1x1.Idx) : k0_pay1 a b j = b j + a j := by
  idx_vars j
  pointwise [k0_pay1]

theorem pay2_at (a b : FVec Ideal S1x1 .f32) (j : S1x1.Idx) : k0_pay2 a b j = b j + a j := by
  idx_vars j
  pointwise [k0_pay2]

end Cert.KernelIdeal.StageA
-- ==== Proof.KernelIdeal.StageABlocks.lean ====
module

public import proofs.«01_k».proof.Proof.KernelIdeal.StageAValue

/-! # The blocks the first call reads -/

@[expose] public section
set_option maxRecDepth 16384
open Idealize Idealize.SL Idealize.ShloMosaic
namespace Cert.KernelIdeal.StageA
open Cert.KernelIdeal Cert.KernelIdeal.Gen Cert.Maths Idealize.ShloMosaic.TcCoe
variable (V : (c : Dev nD) → (b : Ref sig .tc) → Buf (Elt Ideal) ((c : Thread nD τ).loc b))

theorem idx_x : ∀ t : Fin grid0.N, win0_0.index t 0 = t.val ∧ win0_0.index t 1 = 0 ∧ win0_0.index t 2 = 0 := by decide +kernel

theorem idx_emb : ∀ t : Fin grid0.N, win0_13.index t 0 = t.val ∧ win0_13.index t 1 = 0 := by decide +kernel

/-- The other operands' blocks do not move. -/
theorem idx_whole : ∀ (w : Fin 16) (t : Fin grid0.N), w ≠ 0 → w ≠ 13 → ∀ a, (win0 w).index t a = 0 := by decide +kernel

theorem blk0 (c : Dev nD) (t : Fin cfg0.N) (g : Fin 64) (r : Fin 128) (e : Fin 32) :
    iblk V c 0 t (ix3 g r e) = V c main_call0_v3 (ix3 (⟨t.val * 64 + g.val, by have := t.isLt; have : cfg0.N = 32 := N_0; omega⟩ : Fin 2048) r e) := by
  obtain ⟨h0, h1, h2⟩ := idx_x t
  blk_ext [iblk, h0, h1, h2]

theorem blk1 (c : Dev nD) (t : Fin cfg0.N) : iblk V c 1 t = V c main_call0_v36 := by
  have h0 : win0_1.index t 0 = 0 := idx_whole 1 t (by decide) (by decide) 0
  have h1 : win0_1.index t 1 = 0 := idx_whole 1 t (by decide) (by decide) 1
  funext j
  blk_ext [iblk, h0, h1]

theorem blk2 (c : Dev nD) (t : Fin cfg0.N) : iblk V c 2 t = V c main_call0_v69 := by
  have h0 : win0_2.index t 0 = 0 := idx_whole 2 t (by decide) (by decide) 0
  have h1 : win0_2.index t 1 = 0 := idx_whole 2 t (by decide) (by decide) 1
  funext j
  blk_ext [iblk, h0, h1]

theorem blk3 (c : Dev nD) (t : Fin cfg0.N) : iblk V c 3 t = V c main_call0_v70 := by
  have h0 : win0_3.index t 0 = 0 := idx_whole 3 t (by decide) (by decide) 0
  have h1 : win0_3.index t 1 = 0 := idx_whole 3 t (by decide) (by decide) 1
  funext j
  blk_ext [iblk, h0, h1]

theorem blk4 (c : Dev nD) (t : Fin cfg0.N) : iblk V c 4 t = V c main_call0_v61 := by
  have h0 : win0_4.index t 0 = 0 := idx_whole 4 t (by decide) (by decide) 0
  have h1 : win0_4.index t 1 = 0 := idx_whole 4 t (by decide) (by decide) 1
  funext j
  blk_ext [iblk, h0, h1]

theorem blk5 (c : Dev nD) (t : Fin cfg0.N) : iblk V c 5 t = V c main_call0_v71 := by
  have h0 : win0_5.index t 0 = 0 := idx_whole 5 t (by decide) (by decide) 0
  have h1 : win0_5.index t 1 = 0 := idx_whole 5 t (by decide) (by decide) 1
  funext j
  blk_ext [iblk, h0, h1]

theorem blk6 (c : Dev nD) (t : Fin cfg0.N) : iblk V c 6 t = V c main_call0_v68 := by
  have h0 : win0_6.index t 0 = 0 := idx_whole 6 t (by decide) (by decide) 0
  have h1 : win0_6.index t 1 = 0 := idx_whole 6 t (by decide) (by decide) 1
  funext j
  blk_ext [iblk, h0, h1]

theorem blk7 (c : Dev nD) (t : Fin cfg0.N) : iblk V c 7 t = V c main_call0_v45 := by
  have h0 : win0_7.index t 0 = 0 := idx_whole 7 t (by decide) (by decide) 0
  have h1 : win0_7.index t 1 = 0 := idx_whole 7 t (by decide) (by decide) 1
  funext j
  blk_ext [iblk, h0, h1]

theorem blk8 (c : Dev nD) (t : Fin cfg0.N) : iblk V c 8 t = V c main_call0_v52 := by
  have h0 : win0_8.index t 0 = 0 := idx_whole 8 t (by decide) (by decide) 0
  have h1 : win0_8.index t 1 = 0 := idx_whole 8 t (by decide) (by decide) 1
  funext j
  blk_ext [iblk, h0, h1]

theorem blk9 (c : Dev nD) (t : Fin cfg0.N) : iblk V c 9 t = V c main_call0_v59 := by
  have h0 : win0_9.index t 0 = 0 := idx_whole 9 t (by decide) (by decide) 0
  have h1 : win0_9.index t 1 = 0 := idx_whole 9 t (by decide) (by decide) 1
  funext j
  blk_ext [iblk, h0, h1]

theorem blk10 (c : Dev nD) (t : Fin cfg0.N) : iblk V c 10 t = V c main_call0_v64 := by
  have h0 : win0_10.index t 0 = 0 := idx_whole 10 t (by decide) (by decide) 0
  have h1 : win0_10.index t 1 = 0 := idx_whole 10 t (by decide) (by decide) 1
  funext j
  blk_ext [iblk, h0, h1]

theorem blk11 (c : Dev nD) (t : Fin cfg0.N) : iblk V c 11 t = V c main_call0_v72 := by
  have h0 : win0_11.index t 0 = 0 := idx_whole 11 t (by decide) (by decide) 0
  have h1 : win0_11.index t 1 = 0 := idx_whole 11 t (by decide) (by decide) 1
  funext j
  blk_ext [iblk, h0, h1]

theorem blk12 (c : Dev nD) (t : Fin cfg0.N) : iblk V c 12 t = V c main_call0_v73 := by
  have h0 : win0_12.index t 0 = 0 := idx_whole 12 t (by decide) (by decide) 0
  have h1 : win0_12.index t 1 = 0 := idx_whole 12 t (by decide) (by decide) 1
  funext j
  blk_ext [iblk, h0, h1]

end Cert.KernelIdeal.StageA
-- ==== Proof.KernelIdeal.StageAReal.lean ====
module

public import proofs.«01_k».proof.Proof.KernelIdeal.StageABlocks
public import proofs.«01_k».proof.Proof.Inputs

/-! # The first call computes the embedding of every token, its sum and its sum of squares -/

@[expose] public section
set_option maxRecDepth 16384
open Idealize Idealize.SL Idealize.ShloMosaic
namespace Cert.KernelIdeal.StageA
open Cert.KernelIdeal Cert.KernelIdeal.Gen Cert.KernelIdeal.Payload Cert.Maths Idealize.ShloMosaic.TcCoe

/-- What the operands of the first call hold, the rows of the tokens being `X g r`. -/
structure In0 (P : Params) (pe : Fin 16 → Fin 32 → ℝ) {G : ℕ} (X : Fin G → Fin 128 → Fin 32 → ℝ) (x0 : FVec Ideal ⟨3, ![G, 128, 32]⟩ .bf16)
    (x1 x2 x3 : Vec Ideal S32x32 .bf16) (x4 : Vec Ideal S32x128 .bf16)
    (x5 : Vec Ideal S128x32 .bf16) (x6 : Vec Ideal S512x256 .bf16) (x7 x8 x9 : Vec Ideal S128x32 .f32) (x10 : Vec Ideal S1x128 .f32)
    (x11 : Vec Ideal S1x32 .f32) (x12 : Vec Ideal S1x256 .f32) : Prop where
  x : ∀ g r k, x0 (ix3 g r k) = (X g r k : EReal)
  Wq : ∀ i j, x1 (ix2 i j) = ((P.Wq i j * (1 / √32) : ℝ) : EReal)
  Wk : ∀ i j, x2 (ix2 i j) = (P.Wk i j : EReal)
  Wv : ∀ i j, x3 (ix2 i j) = (P.Wv i j : EReal)
  WoW1 : ∀ i j, x4 (ix2 i j) = ((∑ k, P.Wo i k * P.W1 k j : ℝ) : EReal)
  W2 : ∀ i j, x5 (ix2 i j) = P.W2 i j
  Wout : ∀ (c : Fin 512) j, x6 (ix2 c j) = P.Wout ⟨c.val % 32 * 16 + c.val / 32, by omega⟩ j
  bq : ∀ (r : Fin 128) j, x7 (ix2 r j) = (((∑ k, pe ⟨r.val % 16, by omega⟩ k * P.Wq k j + P.bq j) * (1 / √32) : ℝ) : EReal)
  bk : ∀ (r : Fin 128) j, x8 (ix2 r j) = ((∑ k, pe ⟨r.val % 16, by omega⟩ k * P.Wk k j + P.bk j : ℝ) : EReal)
  bv : ∀ (r : Fin 128) j, x9 (ix2 r j) = ((∑ k, pe ⟨r.val % 16, by omega⟩ k * P.Wv k j + P.bv j : ℝ) : EReal)
  b1 : ∀ j, x10 (ix2 0 j) = ∑ k, P.bo k * (P.W1 k j : EReal) + P.b1 j
  b2 : ∀ j, x11 (ix2 0 j) = P.b2 j
  bout : ∀ j, x12 (ix2 0 j) = P.bout j

section
variable {P : Params} {pe : Fin 16 → Fin 32 → ℝ} {X : Fin 64 → Fin 128 → Fin 32 → ℝ} {x0 : Vec Ideal S64x128x32 .bf16}
    {x1 x2 x3 : Vec Ideal S32x32 .bf16} {x4 : Vec Ideal S32x128 .bf16}
    {x5 : Vec Ideal S128x32 .bf16} {x6 : Vec Ideal S512x256 .bf16} {x7 x8 x9 : Vec Ideal S128x32 .f32} {x10 : Vec Ideal S1x128 .f32}
    {x11 : Vec Ideal S1x32 .f32} {x12 : Vec Ideal S1x256 .f32}

/-- The rows of token `a` of a block. -/
def tokRows (pe : Fin 16 → Fin 32 → ℝ) (X : Fin 64 → Fin 128 → Fin 32 → ℝ) (a : Fin 512) (f : Fin 16) (k : Fin 32) : ℝ :=
  X ⟨a.val / 8, by omega⟩ ⟨a.val % 8 * 16 + f.val, by omega⟩ k + pe f k

theorem row_mod (a : Fin 512) (f : Fin 16) (h : (a.val % 8 * 16 + f.val) % 16 < 16) : (⟨(a.val % 8 * 16 + f.val) % 16, h⟩ : Fin 16) = f :=
  Fin.ext (by simp only; omega)

theorem hid_at (h : In0 P pe X x0 x1 x2 x3 x4 x5 x6 x7 x8 x9 x10 x11 x12) (a : Fin 512) (f : Fin 16) (d : Fin 32) :
    hid x0 x1 x2 x3 x4 x5 x7 x8 x9 x10 x11 (ix3 a f d) = ffn P (att P (tokRows pe X a) f) d := by
  unfold hid
  rw [pay10_at _ _ _ _ _ _ _ a f d
    (fun x => ∑ e, (∑ k, X ⟨a.val / 8, by omega⟩ ⟨a.val % 8 * 16 + f.val, by omega⟩ k * (P.Wq k e * (1 / √32))
        + (∑ k, pe ⟨(a.val % 8 * 16 + f.val) % 16, by omega⟩ k * P.Wq k e + P.bq e) * (1 / √32))
      * (∑ k, X ⟨a.val / 8, by omega⟩ x k * P.Wk k e + (∑ k, pe ⟨x.val % 16, by omega⟩ k * P.Wk k e + P.bk e)))
    (fun e x => ∑ k, X ⟨a.val / 8, by omega⟩ x k * P.Wv k e + (∑ k, pe ⟨x.val % 16, by omega⟩ k * P.Wv k e + P.bv e))
    (fun i j => ∑ k, P.Wo i k * P.W1 k j) (fun j => ∑ k, P.bo k * (P.W1 k j : EReal) + P.b1 j) P.W2 P.b2 ?_ ?_ (fun r s => pay9_at r s 0) h.WoW1 h.b1 h.W2 h.b2]
  · unfold ffn att
    have hq : ∀ e, ∑ k, X ⟨a.val / 8, by omega⟩ ⟨a.val % 8 * 16 + f.val, by omega⟩ k * (P.Wq k e * (1 / √32))
        + (∑ k, pe f k * P.Wq k e + P.bq e) * (1 / √32) = lin (tokRows pe X a f) P.Wq P.bq e * (1 / √32) := fun e => lin_add_scaled _ _ _ _ _ _
    have hk : ∀ (g : Fin 16) e, ∑ k, X ⟨a.val / 8, by omega⟩ ⟨a.val % 8 * 16 + g.val, by omega⟩ k * P.Wk k e
        + (∑ k, pe g k * P.Wk k e + P.bk e) = lin (tokRows pe X a g) P.Wk P.bk e := fun g e => lin_add _ _ _ _ _
    have hv : ∀ (g : Fin 16) e, ∑ k, X ⟨a.val / 8, by omega⟩ ⟨a.val % 8 * 16 + g.val, by omega⟩ k * P.Wv k e
        + (∑ k, pe g k * P.Wv k e + P.bv e) = lin (tokRows pe X a g) P.Wv P.bv e := fun g e => lin_add _ _ _ _ _
    have hs : (fun g : Fin 16 => ∑ e, lin (tokRows pe X a f) P.Wq P.bq e * (1 / √32) * lin (tokRows pe X a g) P.Wk P.bk e) = score P (tokRows pe X a) f := by
      funext g
      unfold score
      rw [Finset.sum_div]
      exact Finset.sum_congr rfl fun e _ => by ring
    simp only [row_mod, hq, hk, hv, hs]
    exact congrArg (fun y => linE y P.W2 P.b2 d) (funext fun j => congrArg (max · 0) (lin_lin _ _ _ _ _ _))
  · intro x
    rw [pay5_at]
    simp only [h.x, h.Wq, h.Wk, h.bq, h.bk, ← EReal.coe_mul, ← coe_sum, ← EReal.coe_add]
  · intro e x
    rw [pay4_at]
    simp only [h.x, h.Wv, h.bv, ← EReal.coe_mul, ← coe_sum, ← EReal.coe_add]

theorem emb_at (h : In0 P pe X x0 x1 x2 x3 x4 x5 x6 x7 x8 x9 x10 x11 x12) (a : Fin 512) (e : Fin 256) :
    ofRows (k0_pay17 (F := Ideal)) (hid x0 x1 x2 x3 x4 x5 x7 x8 x9 x10 x11) x6 x12 (ix2 a e) = emb P (tokRows pe X a) e := by
  refine (pay17_at _ _ _ a e).trans ?_
  simp only [hid_at h, h.Wout, h.bout]
  rw [sum_columns (fun f d => ffn P (att P (tokRows pe X a) f) d) (fun c => P.Wout c e)]
  rfl

end

variable (V : (c : Dev nD) → (b : Ref sig .tc) → Buf (Elt Ideal) ((c : Thread nD τ).loc b))

/-- The operands of the first call hold the rows `xr` of the tokens and the weights. -/
def Entered (P : Params) (pe : Fin 16 → Fin 32 → ℝ) (xr : Fin 16384 → Fin 16 → Fin 32 → ℝ) (c : Dev nD) : Prop :=
  In0 P pe (fun (g : Fin 2048) r k => xr ⟨g.val * 8 + r.val / 16, by omega⟩ ⟨r.val % 16, by omega⟩ k)
    (V c main_call0_v3) (V c main_call0_v36) (V c main_call0_v69) (V c main_call0_v70) (V c main_call0_v61) (V c main_call0_v71) (V c main_call0_v68)
    (V c main_call0_v45) (V c main_call0_v52) (V c main_call0_v59) (V c main_call0_v64) (V c main_call0_v72) (V c main_call0_v73)

variable {V} {P : Params} {pe : Fin 16 → Fin 32 → ℝ} {xr : Fin 16384 → Fin 16 → Fin 32 → ℝ} {c : Dev nD}

theorem lt_points (t : Fin cfg0.N) : t.val < 32 := by have := t.isLt; have : cfg0.N = 32 := N_0; omega

theorem blockEmb_at (h : Entered V P pe xr c) (t : Fin cfg0.N) (a : Fin 512) (e : Fin 256) :
    blockEmb V c t (ix2 a e) = emb P (fun f k => xr ⟨t.val * 512 + a.val, by have := lt_points t; omega⟩ f k + pe f k) e := by
  have ht := lt_points t
  have hb : In0 P pe (fun (g : Fin 64) r k => xr ⟨(t.val * 64 + g.val) * 8 + r.val / 16, by omega⟩ ⟨r.val % 16, by omega⟩ k)
      (iblk V c 0 t) (iblk V c 1 t) (iblk V c 2 t) (iblk V c 3 t) (iblk V c 4 t) (iblk V c 5 t) (iblk V c 6 t) (iblk V c 7 t) (iblk V c 8 t)
      (iblk V c 9 t) (iblk V c 10 t) (iblk V c 11 t) (iblk V c 12 t) := by
    rw [blk1, blk2, blk3, blk4, blk5, blk6, blk7, blk8, blk9, blk10, blk11, blk12]
    exact ⟨fun g r k => (blk0 V c t g r k).trans (h.x _ r k), h.Wq, h.Wk, h.Wv, h.WoW1, h.W2, h.Wout, h.bq, h.bk, h.bv, h.b1, h.b2, h.bout⟩
  refine (emb_at hb a e).trans ?_
  congr 1
  funext f k
  unfold tokRows
  have h1 : ∀ p, (⟨(t.val * 64 + a.val / 8) * 8 + (a.val % 8 * 16 + f.val) / 16, p⟩ : Fin 16384) = ⟨t.val * 512 + a.val, by omega⟩ :=
    fun _ => Fin.ext (by simp only; omega)
  simp only [h1, row_mod]

end Cert.KernelIdeal.StageA
-- ==== Proof.KernelIdeal.StageAArrays.lean ====
module

public import proofs.«01_k».proof.Proof.KernelIdeal.StageAReal

/-! # The arrays the first call leaves -/

@[expose] public section
set_option maxRecDepth 16384
open Idealize Idealize.SL Idealize.ShloMosaic
namespace Cert.KernelIdeal.StageA
open Cert.KernelIdeal Cert.KernelIdeal.Gen Cert.KernelIdeal.Payload Cert.Maths Idealize.ShloMosaic.TcCoe

variable {V : (c : Dev nD) → (b : Ref sig .tc) → Buf (Elt Ideal) ((c : Thread nD τ).loc b)}
variable {P : Params} {pe : Fin 16 → Fin 32 → ℝ} {xr : Fin 16384 → Fin 16 → Fin 32 → ℝ} {c : Dev nD}

/-- The embedding of token `n`. -/
noncomputable def tokEmb (P : Params) (pe : Fin 16 → Fin 32 → ℝ) (xr : Fin 16384 → Fin 16 → Fin 32 → ℝ) (n : Fin 16384) (e : Fin 256) : EReal :=
  emb P (fun f k => xr n f k + pe f k) e

theorem outs_emb (c : Dev nD) (t : Fin cfg0.N) : (outsAt0 V c t.val t.isLt).1 = truncf (F := Ideal) .bf16 (blockEmb V c t) bitsLt_bf16_f32 := by
  by_cases h : t.val = 0
  · rw [outs_A V c t (by omega) (by omega)]
  · rw [outs_B V c t (by have := lt_points t; omega) (by omega)]

theorem eta2 {n m : ℕ} (y : (⟨2, ![n, m]⟩ : Shape).Idx) : y = ix2 (y 0) (y 1) := by
  funext k
  fin_cases k <;> rfl

theorem after_emb (h : Entered V P pe xr c) (t : Fin cfg0.N) (y : S512x256.Idx) (j : S16384x256.Idx)
    (h0 : (j 0).val = t.val * 512 + (y 0).val) (h1 : (j 1).val = (y 1).val) :
    (dat V c).after 13 t y = tokEmb P pe xr (j 0) (j 1) := by
  rw [after0_13, outs_emb]
  rw [show tokEmb P pe xr (j 0) (j 1) = tokEmb P pe xr ⟨t.val * 512 + (y 0).val, by have := lt_points t; have : (y 0).val < 512 := (y 0).isLt; omega⟩ (y 1) from
    congrArg₂ _ (Fin.ext h0) (Fin.ext h1)]
  exact (congrArg _ (eta2 y)).trans (blockEmb_at h t (y 0) (y 1))

noncomputable def embArr (P : Params) (pe : Fin 16 → Fin 32 → ℝ) (xr : Fin 16384 → Fin 16 → Fin 32 → ℝ) : FVec Ideal S16384x256 .bf16 :=
  fun j => tokEmb P pe xr (j 0) (j 1)

theorem arr_emb (h : Entered V P pe xr c) : (dat V c).arrAt 13 cfg0.N = embArr P pe xr := by
  refine (dat V c).arrAt_eq_of_covers 13 _ (by decide +kernel) fun t hf y => ?_
  blk_simp
  refine after_emb h t _ _ ?_ ?_
  all_goals
    have h0 := idx_emb t
    blk_simp [h0.1, h0.2]

theorem sum_blocks {n B N : ℕ} (hN : n * B = N) (f : Fin N → EReal) :
    ∑ t : Fin n, ∑ a : Fin B, f ⟨t.val * B + a.val, by have := t.isLt; have := a.isLt; nlinarith⟩ = ∑ n, f n := by
  rw [← Finset.sum_product']
  refine Finset.sum_bij' (fun p _ => (⟨p.1.val * B + p.2.val, by have := p.1.isLt; have := p.2.isLt; nlinarith⟩ : Fin N))
    (fun k _ => ((⟨k.val / B, Nat.div_lt_of_lt_mul (by have := k.isLt; rw [Nat.mul_comm]; omega)⟩ : Fin n),
      (⟨k.val % B, Nat.mod_lt _ (Nat.pos_of_ne_zero fun h => by subst h; have := k.isLt; omega)⟩ : Fin B))) ?_ ?_ ?_ ?_ ?_
  · intro p _; simp
  · intro p _; simp
  · rintro ⟨p, q⟩ _
    have hq := q.isLt
    refine Prod.ext (Fin.ext ?_) (Fin.ext ?_)
    · simp only
      rw [Nat.mul_comm, Nat.mul_add_div (by omega), Nat.div_eq_of_lt hq, add_zero]
    · simp only
      rw [Nat.mul_comm, Nat.mul_add_mod, Nat.mod_eq_of_lt hq]
  · intro k _; exact Fin.ext (Nat.div_add_mod' k.val B)
  · intro p _; rfl

theorem last_whole : ∀ t : Fin grid0.N, t.val + 1 = grid0.N → win0_14.WholeAt t ∧ win0_15.WholeAt t := by decide +kernel

theorem after_sum (h : Entered V P pe xr c) (t : Fin cfg0.N) (ht : t.val + 1 = cfg0.N) (j : S1x1.Idx) :
    (dat V c).after 14 t j = ∑ n, ∑ e, tokEmb P pe xr n e := by
  rw [after0_14, Pipeline.eq_sum_fin_of_reset_step_apply_last (fun n h => (outsAt0 V c n h).2.1) 32 (fun _ => 0) (fun t j => blockSum V c t j)
    (fun t h0 j => by rw [outs_A V c t h0 (by have := lt_points t; omega), zero_add])
    (fun t h0 j => by rw [outs_B V c t h0 (by omega)]; exact pay1_at _ _ j)
    (le_of_eq N_0) t ht j]
  simp only [blockSum_at, blockEmb_at h, zero_add]
  exact sum_blocks (show cfg0.N * 512 = 16384 by rw [show cfg0.N = 32 from N_0]) fun n => ∑ e, tokEmb P pe xr n e

theorem after_sq (h : Entered V P pe xr c) (t : Fin cfg0.N) (ht : t.val + 1 = cfg0.N) (j : S1x1.Idx) :
    (dat V c).after 15 t j = ∑ n, ∑ e, tokEmb P pe xr n e * tokEmb P pe xr n e := by
  rw [after0_15, Pipeline.eq_sum_fin_of_reset_step_apply_last (fun n h => (outsAt0 V c n h).2.2) 32 (fun _ => 0) (fun t j => blockSq V c t j)
    (fun t h0 j => by rw [outs_A V c t h0 (by have := lt_points t; omega), zero_add])
    (fun t h0 j => by rw [outs_B V c t h0 (by omega)]; exact pay2_at _ _ j)
    (le_of_eq N_0) t ht j]
  simp only [blockSq_at, blockEmb_at h, zero_add]
  exact sum_blocks (show cfg0.N * 512 = 16384 by rw [show cfg0.N = 32 from N_0]) fun n => ∑ e, tokEmb P pe xr n e * tokEmb P pe xr n e

/-- A one-element array. -/
noncomputable def oneArr (z : EReal) : FVec Ideal S1x1 .f32 := fun _ => z

theorem exists_last : ∃ t : Fin cfg0.N, t.val + 1 = cfg0.N :=
  ⟨⟨cfg0.N - 1, by rw [show cfg0.N = 32 from N_0]; omega⟩, by simp only; rw [show cfg0.N = 32 from N_0]⟩

theorem arr_sum (h : Entered V P pe xr c) : (dat V c).arrAt 14 cfg0.N = oneArr (∑ n, ∑ e, tokEmb P pe xr n e) := by
  obtain ⟨t, ht⟩ := exists_last
  refine (dat V c).arrAt_eq_of_after_last 14 t (last_whole t ht).1 _ fun j => ?_
  blk_simp
  exact after_sum h t ht _

theorem arr_sq (h : Entered V P pe xr c) :
    (dat V c).arrAt 15 cfg0.N = oneArr (∑ n, ∑ e, tokEmb P pe xr n e * tokEmb P pe xr n e) := by
  obtain ⟨t, ht⟩ := exists_last
  refine (dat V c).arrAt_eq_of_after_last 15 t (last_whole t ht).2 _ fun j => ?_
  blk_simp
  exact after_sq h t ht _

end Cert.KernelIdeal.StageA
-- ==== Proof.Consts.lean ====
module

public import Idealize.ShloMosaic.Lib.Pointwise

/-! # The numbers the constants of both programs denote -/

@[expose] public section
open Idealize Idealize.SL Idealize.ShloMosaic
namespace Cert.Consts

theorem two : Ideal.ofBits .f32 0x40000000#32 = ((2 : ℝ) : EReal) := by
  simp [Ideal.ofBits, Ideal.ieee, -EReal.coe_mul]; norm_num
theorem thirtytwo : Ideal.ofBits .f32 0x42000000#32 = ((32 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem zero : Ideal.ofBits .f32 0x00000000#32 = ((0 : ℝ) : EReal) := by
  simp [Ideal.ofBits, Ideal.ieee]
theorem bottom : Ideal.ofBits .f32 0xFF800000#32 = ⊥ := by
  simp [Ideal.ofBits, Ideal.ieee]
theorem tenThousand : Ideal.ofBits .f32 0x461C4000#32 = ((10000 : ℝ) : EReal) := by
  simp [Ideal.ofBits, Ideal.ieee, -EReal.coe_mul]; norm_num
theorem hundredth : Ideal.ofBits .f32 0x3C23D70A#32 = ((10737418 / 1073741824 : ℝ) : EReal) := by
  simp [Ideal.ofBits, Ideal.ieee, -EReal.coe_mul]; norm_num
theorem count : Ideal.ofBits .f32 0x4A800000#32 = ((4194304 : ℝ) : EReal) := by
  simp [Ideal.ofBits, Ideal.ieee, -EReal.coe_mul]; norm_num
theorem eps : ∃ ε : ℝ, 0 < ε ∧ Ideal.ofBits .f32 0x322BCC77#32 = (ε : EReal) := by
  refine ⟨11258999 / 2 ^ 50, by norm_num, ?_⟩
  simp [Ideal.ofBits, Ideal.ieee, -EReal.coe_mul]; norm_num

end Cert.Consts
-- ==== Proof.ReferenceIdeal.Pe.lean ====
module

public import proofs.«01_k».proof.Proof.Consts
public import proofs.«01_k».proof.Proof.Maths
public import proofs.«01_k».proof.Proof.Gen.ReferenceIdeal.Read

/-! # The small table of positions is a table of real numbers -/

@[expose] public section
set_option maxRecDepth 16384
open Idealize Idealize.SL Idealize.ShloMosaic
namespace Cert.ReferenceIdeal.Pe
open Cert.ReferenceIdeal Cert.ReferenceIdeal.Read Cert.Maths

theorem power_pos (i : S1x32.Idx) : ∃ r : ℝ, r ≠ 0 ∧ val_main_v14 (F := Ideal) i = (r : EReal) := by
  refine ⟨Real.rpow 10000 (2 * ((⌊((BitVec.ofNat 32 (i 1).val).toInt : ℝ) / 2⌋ : ℤ) : ℝ) / 32), (Real.rpow_pos_of_pos (by norm_num) _).ne', ?_⟩
  rw [val_main_v14_apply, val_main_v13_apply, val_main_v12_apply, val_main_v11_apply, val_main_v10_apply, val_main_v9_apply, val_main_v8_apply,
    val_main_v7_apply, val_main_v6_apply, val_main_v5_apply]
  rw [show val_main_v4 (F := Ideal) (idx_main_v5 i) = (((BitVec.ofNat 32 (i 1).val).toInt : ℝ) : EReal) from rfl]
  rw [show ∀ j, val_main_cst (F := Ideal) j = ((2 : ℝ) : EReal) from fun j => Consts.two,
    show ∀ j, val_main_cst_0 (F := Ideal) j = ((2 : ℝ) : EReal) from fun j => Consts.two,
    show ∀ j, val_main_cst_1 (F := Ideal) j = ((32 : ℝ) : EReal) from fun j => Consts.thirtytwo,
    show ∀ j, val_main_cst_2 (F := Ideal) j = ((10000 : ℝ) : EReal) from fun j => Consts.tenThousand]
  simp only [Ideal.hostDivf_def, Ideal.hostUnary_floor_def, Ideal.hostPowf_def, Ideal.mulf_def]
  rw [div_coe_coe _ (by norm_num)]
  rw [show ∀ r : ℝ, Ideal.liftRound Int.floor (r : EReal) = ((⌊r⌋ : ℝ) : EReal) from fun r => rfl, ← EReal.coe_mul, div_coe_coe _ (by norm_num)]
  rfl

theorem real (i : S16x32.Idx) : ∃ r : ℝ, val_main_v25 (F := Ideal) i = (r : EReal) := by
  have h17 : ∃ r : ℝ, val_main_v17 (F := Ideal) i = (r : EReal) := by
    obtain ⟨p, hp, h⟩ := power_pos (idx_main_v16 i)
    rw [val_main_v17_apply, val_main_v16_apply, h, val_main_v15_apply, val_main_v3_apply]
    rw [show val_main_v2 (F := Ideal) (idx_main_v3 (idx_main_v15 i)) = (((BitVec.ofNat 32 (i 0).val).toInt : ℝ) : EReal) from rfl]
    exact ⟨_, div_coe_coe _ hp⟩
  obtain ⟨r, h⟩ := h17
  rw [val_main_v25_apply, val_main_v23_apply, val_main_v24_apply, h]
  unfold Scalar.select
  split
  · exact ⟨Real.sin r, rfl⟩
  · exact ⟨Real.cos r, rfl⟩

end Cert.ReferenceIdeal.Pe
-- ==== Proof.KernelIdeal.StageAEnter.lean ====
module

public import proofs.«01_k».proof.Proof.KernelIdeal.HostA
public import proofs.«01_k».proof.Proof.KernelIdeal.StageAArrays
public import proofs.«01_k».proof.Proof.ReferenceIdeal.Pe

/-! # What the host hands to the first call -/

@[expose] public section
set_option maxRecDepth 16384
open Idealize Idealize.SL Idealize.ShloMosaic
namespace Cert.KernelIdeal.HostA
open Cert.KernelIdeal Cert.KernelIdeal.Gen Cert.KernelIdeal.StageA Cert.Maths Idealize.ShloMosaic.TcCoe

/-- `offs` is the table of positions, scaled and shifted. -/
def IsOffs (offs : Fin 16 → Fin 32 → ℝ) : Prop :=
  ∀ f e, Cert.ReferenceIdeal.Read.val_main_v25 (F := Ideal) (ix2 f e) * Ideal.ofBits .f32 0x3C23D70A#32 + Ideal.ofBits .f32 0x3C23D70A#32
    = (offs f e : EReal)

theorem exists_offs : ∃ offs, IsOffs offs := by
  choose r hr using fun i => Cert.ReferenceIdeal.Pe.real i
  refine ⟨fun f e => r (ix2 f e) * (10737418 / 1073741824) + 10737418 / 1073741824, fun f e => ?_⟩
  rw [hr, Consts.hundredth, ← EReal.coe_mul, ← EReal.coe_add]

theorem scale_at : scale ix0 = ((1 / √32 : ℝ) : EReal) := by
  rw [show scale ix0 = Ideal.div (Ideal.ofBits .f32 0x3F800000#32) (Ideal.sqrt (Ideal.ofBits .f32 0x42000000#32)) from rfl,
    Consts.one, Consts.thirtytwo, sqrt_coe (by norm_num), div_coe_coe _ (by positivity)]

variable (V : Valuation τ sig (Elt Ideal))

/-- The arguments hold the real inputs `x`, the marks `o` and the weights `P`. -/
abbrev Given (P : Params) (x : Fin 8 → Fin 2048 → Fin 512 → ℝ) (o : Fin 8 → Fin 2048 → Fin 2) : Prop :=
  Holds P x o (V (Proc.devRef .tc main_arg0)) (V (Proc.devRef .tc main_arg1)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11)) (V (Proc.devRef .tc main_arg12))
    (V (Proc.devRef .tc main_arg13)) (V (Proc.devRef .tc main_arg14)) (V (Proc.devRef .tc main_arg15)) (V (Proc.devRef .tc main_arg16))

variable {V} {P : Params} {x : Fin 8 → Fin 2048 → Fin 512 → ℝ} {o : Fin 8 → Fin 2048 → Fin 2} {offs : Fin 16 → Fin 32 → ℝ}

theorem dense_real (hp : IsOffs offs) {W : FVec Ideal S32x32 .f32} {b : FVec Ideal S32 .f32} {W' : Fin 32 → Fin 32 → ℝ} {b' : Fin 32 → ℝ}
    (hW : ∀ i j, W (ix2 i j) = (W' i j : EReal)) (hb : ∀ j, b (ix1 j) = (b' j : EReal)) (r : Fin 128) (j : Fin 32) :
    tiled (dense pe W b) (ix2 r j) = ((∑ k, offs ⟨r.val % 16, by omega⟩ k * W' k j + b' j : ℝ) : EReal) := by
  rw [tiled_dense_at]
  simp only [pe_at, hp _ _, hW, hb, ← EReal.coe_mul, ← coe_sum, ← EReal.coe_add]

theorem enters (H : Given V P x o) (hp : IsOffs offs) :
    In0 P offs (fun (g : Fin 2048) (r : Fin 128) (k : Fin 32) => x ⟨(g.val * 8 + r.val / 16) / 2048, by omega⟩
        ⟨(g.val * 8 + r.val / 16) % 2048, by omega⟩ ⟨k.val * 16 + r.val % 16, by omega⟩)
      (A V main_call0_v3) (A V main_call0_v36) (A V main_call0_v69) (A V main_call0_v70) (A V main_call0_v61) (A V main_call0_v71)
      (A V main_call0_v68) (A V main_call0_v45) (A V main_call0_v52) (A V main_call0_v59) (A V main_call0_v64) (A V main_call0_v72)
      (A V main_call0_v73) where
  x g r k := (congrFun (x_eq V) _).trans ((rowsOf_at _ g r k).trans (H.x _ _ _))
  Wq i j := (congrFun (Wq_eq V) _).trans ((scaled_at _ i j).trans (by rw [H.Wq, scale_at, ← EReal.coe_mul]))
  Wk i j := (congrFun (Wk_eq V) _).trans (H.Wk i j)
  Wv i j := (congrFun (Wv_eq V) _).trans (H.Wv i j)
  WoW1 i j := (congrFun (WoW1_eq V) _).trans ((prodW_at _ _ i j).trans (by simp only [H.Wo, H.W1, ← EReal.coe_mul, ← coe_sum]))
  W2 i j := (congrFun (W2_eq V) _).trans (H.W2 i j)
  Wout c j := (congrFun (Wout_eq V) _).trans ((regroup_at _ c j).trans (H.Wout _ j))
  bq r j := (congrFun (bq_eq V) _).trans ((tiled_scaled_at _ r j).trans (by rw [dense_real hp H.Wq H.bq, scale_at, ← EReal.coe_mul]))
  bk r j := (congrFun (bk_eq V) _).trans (dense_real hp H.Wk H.bk r j)
  bv r j := (congrFun (bv_eq V) _).trans (dense_real hp H.Wv H.bv r j)
  b1 j := (congrFun (b1_eq V) _).trans ((biasW_at _ _ _ 0 j).trans (by simp only [H.bo, H.W1, H.b1]))
  b2 j := (congrFun (b2_eq V) _).trans (Eq.trans (by pointwise) (H.b2 j))
  bout j := (congrFun (bout_eq V) _).trans (Eq.trans (by pointwise) (H.bout j))

end Cert.KernelIdeal.HostA
-- ==== Proof.KernelIdeal.HostB.lean ====
module

public import proofs.«01_k».proof.Proof.Gen.KernelIdeal.Regions
public import proofs.«01_k».proof.Proof.Gen.ReferenceIdeal.Read
public import proofs.«01_k».proof.Proof.Inputs
public import proofs.«01_k».proof.Proof.Consts
public import Idealize.ShloMosaic.Lib.Claim

/-! # What the host computes between the two calls, read at an index -/

@[expose] public section
set_option maxRecDepth 16384
open Idealize Idealize.SL Idealize.ShloMosaic
namespace Cert.KernelIdeal.HostB
open Cert.KernelIdeal Cert.KernelIdeal.Gen Cert.Maths Idealize.ShloMosaic.TcCoe

variable (V : Valuation τ sig (Elt Ideal))

/-- A buffer before the second call. -/
noncomputable abbrev B (b : Ref sig .tc) := StableHlo.after (hostOps1 (F := Ideal)) V (Proc.devRef .tc b)

/-- The mean, from the sum. -/
noncomputable def mean (s : FVec Ideal S1x1 .f32) : FVec Ideal S_ .f32 :=
  Host.divf (shapeCast S_ s shapeCasts_S1x1_S_) (constant S_ .f32 0x4A800000#32)

/-- One over the deviation, from the sum and the sum of squares. -/
noncomputable def scaleOf (s q : FVec Ideal S1x1 .f32) : FVec Ideal S_ .f32 :=
  Host.divf (constant S_ .f32 0x3F800000#32)
    (Host.sqrt (addf (subf (mean q) (mulf (mean s) (mean s))) (constant S_ .f32 0x322BCC77#32)))

theorem mean_at (s : FVec Ideal S1x1 .f32) (a b : Fin 1) :
    shapeCast S1x1 (mean s) shapeCasts_S_S1x1 (ix2 a b) = Ideal.div (s (ix2 0 0)) (Ideal.ofBits .f32 0x4A800000#32) := by
  pointwise [mean]

theorem scaleOf_at (s q : FVec Ideal S1x1 .f32) (a b : Fin 1) :
    shapeCast S1x1 (scaleOf s q) shapeCasts_S_S1x1 (ix2 a b)
      = Ideal.div (Ideal.ofBits .f32 0x3F800000#32) (Ideal.sqrt (Ideal.div (q (ix2 0 0)) (Ideal.ofBits .f32 0x4A800000#32)
        - Ideal.div (s (ix2 0 0)) (Ideal.ofBits .f32 0x4A800000#32) * Ideal.div (s (ix2 0 0)) (Ideal.ofBits .f32 0x4A800000#32)
        + Ideal.ofBits .f32 0x322BCC77#32)) := by
  pointwise [scaleOf, mean]

theorem mu_eq : B V main_call0_v84 = shapeCast S1x1 (mean (V (Proc.devRef .tc main_call0_v74_1))) shapeCasts_S_S1x1 := by
  unfold B
  entry_read
  rfl

theorem inv_eq : B V main_call0_v85
    = shapeCast S1x1 (scaleOf (V (Proc.devRef .tc main_call0_v74_1)) (V (Proc.devRef .tc main_call0_v74_2))) shapeCasts_S_S1x1 := by
  unfold B
  entry_read
  simp only [StableHlo.TRef.ofBuf_toBuf]
  rfl

theorem pe_eq : B V main_call0_v109 = Cert.ReferenceIdeal.Read.val_main_v155 (F := Ideal) := by
  unfold B
  entry_read
  simp only [StableHlo.TRef.ofBuf_toBuf]
  rfl

/-- The marks as one column per sequence. -/
noncomputable def column (o : IVec S8x2048 32) : FVec Ideal S8x2048x1 .f32 := shapeCast S8x2048x1 (sitofp (F := Ideal) .f32 o) shapeCasts_S8x2048_S8x2048x1

theorem column_at (o : IVec S8x2048 32) (b : Fin 8) (t : Fin 2048) (z : Fin 1) :
    column o (ix3 b t z) = (((o (ix2 b t)).toInt : ℝ) : EReal) := by
  pointwise [column]
  rfl

theorem o_eq : B V main_call0_v111 = column (V (Proc.devRef .tc main_arg1)) := by
  unfold B
  entry_read
  rfl

/-- The embeddings by sequence. -/
noncomputable def bySeq (E : FVec Ideal S16384x256 .bf16) : FVec Ideal S8x2048x256 .bf16 := shapeCast S8x2048x256 E shapeCasts_S16384x256_S8x2048x256

theorem bySeq_at (E : FVec Ideal S16384x256 .bf16) (b : Fin 8) (t : Fin 2048) (e : Fin 256) :
    bySeq E (ix3 b t e) = E (ix2 ⟨b.val * 2048 + t.val, by omega⟩ e) := by
  pointwise [bySeq]

theorem emb_eq : B V main_call0_v112 = bySeq (V (Proc.devRef .tc main_call0_v74_0)) := by
  unfold B
  entry_read
  rfl

theorem r_eq : B V main_arg2 = V (Proc.devRef .tc main_arg2) := by
  unfold B
  entry_read
  rfl

end Cert.KernelIdeal.HostB
-- ==== Proof.KernelIdeal.StageBTrip.lean ====
module

public import proofs.«01_k».proof.Proof.KernelIdeal.StageB
public import Idealize.ShloMosaic.Lib.Pipeline.ValueKit

/-! # One trip of the second call's loop -/

@[expose] public section
set_option maxRecDepth 16384
open Idealize Idealize.SL Idealize.ShloMosaic
namespace Cert.KernelIdeal.StageB
open Cert.KernelIdeal Cert.KernelIdeal.Gen Idealize.ShloMosaic.TcCoe

/-- The block of 128 positions the trip `k` works on. -/
def blockOf (k : Fin k1_t1_loop.trips) : ℕ := 15 - k.val

theorem trips_lt : ∀ k : Fin k1_t1_loop.trips, k.val < 16 := by decide +kernel

theorem off1_eq : ∀ k : Fin k1_t1_loop.trips, k1_off1 k = ![0, blockOf k * 128, 0] := by decide +kernel
theorem off2_eq : ∀ k : Fin k1_t1_loop.trips, k1_off2 k = ![0, blockOf k * 128, 0] := by decide +kernel
theorem off3_eq : ∀ k : Fin k1_t1_loop.trips, k1_off3 k = ![0, (if blockOf k < 15 then blockOf k + 1 else 15) * 128, 0] := by decide +kernel
theorem off4_eq : ∀ k : Fin k1_t1_loop.trips, k1_off4 k = ![blockOf k * 128, 0] := by decide +kernel

/-- Block `b` of an array by sequence. -/
def cut3 {α : Type} {d : ℕ} (x : (⟨3, ![1, 2048, d]⟩ : Shape).Idx → α) (b : ℕ) (hb : b < 16) : (⟨3, ![1, 128, d]⟩ : Shape).Idx → α :=
  fun j => x (ix3 (0 : Fin 1) ⟨b * 128 + (j 1).val, by have : (j 1).val < 128 := (j 1).isLt; omega⟩ (j 2))

/-- Block `b` of a table. -/
def cut2 {α : Type} {d : ℕ} (x : (⟨2, ![2048, d]⟩ : Shape).Idx → α) (b : ℕ) (hb : b < 16) : (⟨2, ![128, d]⟩ : Shape).Idx → α :=
  fun j => x (ix2 ⟨b * 128 + (j 0).val, by have : (j 0).val < 128 := (j 0).isLt; omega⟩ (j 1))

/-- Where the block after begins. -/
def nextOf (k : Fin k1_t1_loop.trips) : Fin 2048 := ⟨(if blockOf k < 15 then blockOf k + 1 else 15) * 128, by split <;> omega⟩

/-- A block read from an array held whole. -/
theorem ld_cut3 {sg : RefSig} {κ : Kind} {sp : Space} {d : ℕ} {e : EltTy} {m : Memref sg κ sp ⟨3, ![1, 2048, d]⟩ e} (h : m.IsWhole)
    (X : (⟨3, ![1, 2048, d]⟩ : Shape).Idx → Elt Ideal e) {off : Fin 3 → Nat} (inb : ∀ a, off a + (![1, 128, d] : Fin 3 → ℕ) a ≤ (![1, 2048, d] : Fin 3 → ℕ) a)
    (b : ℕ) (hb : b < 16) (h0 : off = ![0, b * 128, 0]) :
    View.readAt (Elt Ideal) m.view (Rect.unit (s := ⟨3, ![1, 2048, d]⟩) off ![1, 128, d] inb).toLoadRect (h.unread X) = cut3 X b hb := by
  subst h0
  funext j
  refine (congrFun (h.read_unread X) _).trans (congrArg X (funext fun a => Fin.ext ?_))
  have h0 : (j 0).val < 1 := (j 0).isLt
  fin_cases a
  · show 0 + 1 * (j 0).val = 0
    omega
  · show b * 128 + 1 * (j 1).val = b * 128 + (j 1).val
    omega
  · show 0 + 1 * (j 2).val = (j 2).val
    omega

/-- A block read from a table held whole. -/
theorem ld_cut2 {sg : RefSig} {κ : Kind} {sp : Space} {d : ℕ} {e : EltTy} {m : Memref sg κ sp ⟨2, ![2048, d]⟩ e} (h : m.IsWhole)
    (X : (⟨2, ![2048, d]⟩ : Shape).Idx → Elt Ideal e) {off : Fin 2 → Nat} (inb : ∀ a, off a + (![128, d] : Fin 2 → ℕ) a ≤ (![2048, d] : Fin 2 → ℕ) a)
    (b : ℕ) (hb : b < 16) (h0 : off = ![b * 128, 0]) :
    View.readAt (Elt Ideal) m.view (Rect.unit (s := ⟨2, ![2048, d]⟩) off ![128, d] inb).toLoadRect (h.unread X) = cut2 X b hb := by
  subst h0
  funext j
  refine (congrFun (h.read_unread X) _).trans (congrArg X (funext fun a => Fin.ext ?_))
  fin_cases a
  · show b * 128 + 1 * (j 0).val = b * 128 + (j 0).val
    omega
  · show 0 + 1 * (j 1).val = (j 1).val
    omega

/-- One mark read from an array held whole. -/
theorem ld_one {sg : RefSig} {κ : Kind} {sp : Space} {e : EltTy} {m : Memref sg κ sp S1x2048x1 e} (h : m.IsWhole)
    (X : S1x2048x1.Idx → Elt Ideal e) {off : Fin 3 → Nat} (inb : ∀ a, off a + S1x1x1.size a ≤ S1x2048x1.size a)
    (p : Fin 2048) (h0 : off = ![0, p.val, 0]) :
    View.readAt (Elt Ideal) m.view (Rect.unit (s := S1x2048x1) off S1x1x1.size inb).toLoadRect (h.unread X) = fun _ => X (ix3 (0 : Fin 1) p (0 : Fin 1)) := by
  subst h0
  funext j
  refine (congrFun (h.read_unread X) _).trans (congrArg X (funext fun a => Fin.ext ?_))
  have h0 : (j 0).val < 1 := (j 0).isLt
  have h1 : (j 1).val < 1 := (j 1).isLt
  have h2 : (j 2).val < 1 := (j 2).isLt
  fin_cases a
  · show 0 + 1 * (j 0).val = 0
    omega
  · show p.val + 1 * (j 1).val = p.val
    omega
  · show 0 + 1 * (j 2).val = 0
    omega

theorem block_lt (k : Fin k1_t1_loop.trips) : blockOf k < 16 := by unfold blockOf; omega

section
variable (c : Dev nD) (i : grid1.Coords) (arg1 : Memref sig .tc .vmem S1x2048x256 .bf16) (harg1 : arg1.IsWhole) (arg2 : Memref sig .tc .vmem S1x2048x256 .f32) (harg2 : arg2.IsWhole) (arg3 : Memref sig .tc .vmem S1x2048x1 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048x256 .f32) (harg7 : arg7.IsWhole)
    (x0 : Vec Ideal S1x2048x256 .bf16) (x1 : Vec Ideal S1x2048x256 .f32) (x2 : Vec Ideal S1x2048x1 .f32) (x3 : Vec Ideal S2048x256 .f32) (x4 : Vec Ideal S1x1 .f32) (x5 : Vec Ideal S1x1 .f32)

/-- The marks of the trip's block. -/
abbrev oAt (k : Fin k1_t1_loop.trips) : Vec Ideal S1x128x1 .f32 := cut3 x2 (blockOf k) (block_lt k)

/-- The embeddings of the trip's block. -/
abbrev eAt (k : Fin k1_t1_loop.trips) : Vec Ideal S1x128x256 .bf16 := cut3 x0 (blockOf k) (block_lt k)

/-- The first mark of the block after. -/
def nAt (k : Fin k1_t1_loop.trips) : Vec Ideal S1x1x1 .f32 :=
  fun _ => x2 (ix3 (0 : Fin 1) (nextOf k) (0 : Fin 1))

/-- Whether the last segment of the block goes on in the block after. -/
noncomputable def goesOn (k : Fin k1_t1_loop.trips) : BitVec 1 :=
  Scalar.andi (Scalar.cmpi .slt (Scalar.subi 15#32 (Scf.iv 0#32 1#32 k)) 15#32)
    (Scalar.cmpf .oeq (k1_pay15 (F := Ideal) (nAt x2 k)) (Scalar.ofBits .f32 0x00000000#32))

/-- The sums from each position of the block to the end of its segment. -/
noncomputable def sumsAt (k : Fin k1_t1_loop.trips) (acc : FVec Ideal S1x256 .f32 × FVec Ideal S1x1 .f32) : FVec Ideal S128x256 .f32 :=
  k1_pay17 acc.1 (k1_pay10 k1_pay3 (oAt x2 k)) (k1_pay13 (k1_pay1 x4) (k1_pay2 x5) k1_pay3 k1_pay4 (oAt x2 k) (eAt x0 k)) (goesOn x2 k)
    (Scalar.ofBits .f32 0x3F800000#32) (Scalar.ofBits .f32 0x00000000#32)

/-- The numbers of positions summed. -/
noncomputable def countsAt (k : Fin k1_t1_loop.trips) (acc : FVec Ideal S1x256 .f32 × FVec Ideal S1x1 .f32) : FVec Ideal S128x1 .f32 :=
  k1_pay18 acc.2 (k1_pay10 k1_pay3 (oAt x2 k)) (k1_pay14 k1_pay3 k1_pay4 (oAt x2 k)) (goesOn x2 k)
    (Scalar.ofBits .f32 0x3F800000#32) (Scalar.ofBits .f32 0x00000000#32)

/-- The block of the result. -/
noncomputable def outAt (k : Fin k1_t1_loop.trips) (acc : FVec Ideal S1x256 .f32 × FVec Ideal S1x1 .f32) : FVec Ideal S1x128x256 .f32 :=
  k1_pay19 acc.1 acc.2 (Scalar.subi 15#32 (Scf.iv 0#32 1#32 k)) (k1_pay9 (oAt x2 k)) (k1_pay10 k1_pay3 (oAt x2 k))
    (k1_pay12 (k1_pay1 x4) (k1_pay2 x5) (eAt x0 k)) (k1_pay13 (k1_pay1 x4) (k1_pay2 x5) k1_pay3 k1_pay4 (oAt x2 k) (eAt x0 k))
    (k1_pay14 k1_pay3 k1_pay4 (oAt x2 k)) (goesOn x2 k)
    (Scalar.ofBits .f32 0x3F800000#32) (Scalar.ofBits .f32 0x00000000#32) (cut3 x1 (blockOf k) (block_lt k)) (cut2 x3 (blockOf k) (block_lt k))

theorem tripR_eq (k : Fin k1_t1_loop.trips) (acc : FVec Ideal S1x256 .f32 × FVec Ideal S1x1 .f32) :
    tripR_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) k acc
      = (k1_pay7 (sumsAt x0 x2 x4 x5 k acc), k1_pay8 (countsAt x2 k acc)) := by
  unfold tripR_k1_t1 trip_k1_t1
  unfold sumsAt countsAt goesOn
  unfold oAt eAt
  rw [← show _ = nAt x2 k from ld_one harg3 x2 (k1_off3_inb k) (nextOf k) (off3_eq k)]
  rw [← ld_cut3 harg3 x2 (k1_off1_inb k) _ (block_lt k) (off1_eq k), ← ld_cut3 harg1 x0 (k1_off2_inb k) _ (block_lt k) (off2_eq k)]
  rfl

theorem tripL_eq (k : Fin k1_t1_loop.trips) (acc : FVec Ideal S1x256 .f32 × FVec Ideal S1x1 .f32) :
    tripL_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) k acc
      = [⟨Rect.unit (s := S1x2048x256) (k1_off2 k) S1x128x256.size (k1_off2_inb k), outAt x0 x1 x2 x3 x4 x5 k acc⟩] := by
  unfold tripL_k1_t1 trip_k1_t1
  unfold outAt goesOn
  unfold oAt eAt
  rw [← show _ = nAt x2 k from ld_one harg3 x2 (k1_off3_inb k) (nextOf k) (off3_eq k)]
  rw [← ld_cut3 harg3 x2 (k1_off1_inb k) _ (block_lt k) (off1_eq k), ← ld_cut3 harg1 x0 (k1_off2_inb k) _ (block_lt k) (off2_eq k),
    ← ld_cut3 harg2 x1 (k1_off2_inb k) _ (block_lt k) (off2_eq k),
    ← ld_cut2 harg4 x3 (k1_off4_inb k) _ (block_lt k) (off4_eq k)]
  rfl

end

end Cert.KernelIdeal.StageB
-- ==== Proof.KernelIdeal.PayloadB.lean ====
module

public import proofs.«01_k».proof.Proof.Gen.KernelIdeal.Skeleton
public import proofs.«01_k».proof.Proof.Maths
public import proofs.«01_k».proof.Proof.Consts
public import Idealize.ShloMosaic.Lib.Pointwise

/-! # The payloads of the second call, read at an index -/

@[expose] public section
set_option maxRecDepth 16384
open Idealize Idealize.SL Idealize.ShloMosaic
namespace Cert.KernelIdeal.PayloadB
open Cert.KernelIdeal Cert.KernelIdeal.Gen Cert.Maths

theorem pay3_at (i j : Fin 128) : k1_pay3 (F := Ideal) (ix2 i j) = if j ≤ i then 1 else 0 := by
  pointwise [k1_pay3]
  have h : ∀ i j : Fin 128, IntOp.cmpi CmpIPredicate.sle (BitVec.ofNat 32 j.val) (BitVec.ofNat 32 i.val) = BitVec.ofBool (decide (j ≤ i)) := by
    decide +kernel
  rw [h]
  by_cases hij : j ≤ i
  · rw [if_pos hij, decide_eq_true hij]; rfl
  · rw [if_neg hij, decide_eq_false hij]; rfl

theorem pay4_at (i j : Fin 128) : k1_pay4 (ix2 i j) = BitVec.ofBool (decide (i ≤ j)) := by
  pointwise [k1_pay4]
  have h : ∀ i j : Fin 128, IntOp.cmpi CmpIPredicate.sge (BitVec.ofNat 32 j.val) (BitVec.ofNat 32 i.val) = BitVec.ofBool (decide (i ≤ j)) := by
    decide +kernel
  exact h i j

theorem pay10_at (v9 : FVec Ideal S128x128 .f32) (o : Vec Ideal S1x128x1 .f32) (i : Fin 128) (z : Fin 1) :
    k1_pay10 v9 o (ix2 i z) = ∑ j, v9 (ix2 i j) * o (ix3 (0 : Fin 1) j (0 : Fin 1)) := by
  pointwise [k1_pay10, k1_pay9]

theorem pay11_at (v9 : FVec Ideal S128x128 .f32) (v10 : IVec S128x128 1) (o : Vec Ideal S1x128x1 .f32) (i j : Fin 128) :
    k1_pay11 v9 v10 o (ix2 i j) = Scalar.select (IntOp.andi (BitVec.ofBool (decide (k1_pay10 v9 o (ix2 i (0 : Fin 1)) = k1_pay10 v9 o (ix2 j (0 : Fin 1))))) (v10 (ix2 i j))) 1 0 := by
  unfold k1_pay11
  generalize k1_pay10 v9 o = y
  pointwise

theorem pay12_at (v1 v3 : Ideal .f32) (e : Vec Ideal S1x128x256 .bf16) (i : Fin 128) (d : Fin 256) :
    k1_pay12 v1 v3 e (ix2 i d) = (e (ix3 (0 : Fin 1) i d) - v1) * v3 := by
  pointwise [k1_pay12]

theorem pay13_at (v1 v3 : Ideal .f32) (v9 : FVec Ideal S128x128 .f32) (v10 : IVec S128x128 1) (o : Vec Ideal S1x128x1 .f32)
    (e : Vec Ideal S1x128x256 .bf16) (i : Fin 128) (d : Fin 256) :
    k1_pay13 v1 v3 v9 v10 o e (ix2 i d) = ∑ j, k1_pay11 v9 v10 o (ix2 i j) * k1_pay12 v1 v3 e (ix2 j d) := by
  unfold k1_pay13
  generalize k1_pay11 v9 v10 o = y
  generalize k1_pay12 v1 v3 e = w
  pointwise

theorem pay14_at (v9 : FVec Ideal S128x128 .f32) (v10 : IVec S128x128 1) (o : Vec Ideal S1x128x1 .f32) (i : Fin 128) (z : Fin 1) :
    k1_pay14 v9 v10 o (ix2 i z) = ∑ j, k1_pay11 v9 v10 o (ix2 i j) := by
  unfold k1_pay14
  generalize k1_pay11 v9 v10 o = y
  pointwise

theorem pay15_at (x : Vec Ideal S1x1x1 .f32) : k1_pay15 x = x (ix3 (0 : Fin 1) (0 : Fin 1) (0 : Fin 1)) := by
  pointwise [k1_pay15]

theorem pay1_at (x : Vec Ideal S1x1 .f32) : k1_pay1 x = x (ix2 (0 : Fin 1) (0 : Fin 1)) := by
  pointwise [k1_pay1]

theorem pay16_at (c : FVec Ideal S128x1 .f32) (v : BitVec 1) (p q : Ideal .f32) (i : Fin 128) (z : Fin 1) :
    k1_pay16 c v p q (ix2 i z) = if c (ix2 i z) = c (ix2 (127 : Fin 128) (0 : Fin 1)) then Scalar.select v p q else 0 := by
  pointwise [k1_pay16]

theorem pay17_at (a : FVec Ideal S1x256 .f32) (c : FVec Ideal S128x1 .f32) (s : FVec Ideal S128x256 .f32) (v : BitVec 1) (p q : Ideal .f32) (i : Fin 128) (d : Fin 256) :
    k1_pay17 a c s v p q (ix2 i d) = s (ix2 i d) + k1_pay16 c v p q (ix2 i (0 : Fin 1)) * a (ix2 (0 : Fin 1) d) := by
  unfold k1_pay17
  generalize k1_pay16 c v p q = y
  pointwise

theorem pay18_at (a : FVec Ideal S1x1 .f32) (c : FVec Ideal S128x1 .f32) (s : FVec Ideal S128x1 .f32) (v : BitVec 1) (p q : Ideal .f32) (i : Fin 128) (z : Fin 1) :
    k1_pay18 a c s v p q (ix2 i z) = s (ix2 i z) + k1_pay16 c v p q (ix2 i z) * a (ix2 (0 : Fin 1) (0 : Fin 1)) := by
  unfold k1_pay18
  generalize k1_pay16 c v p q = y
  pointwise

theorem pay7_at (s : FVec Ideal S128x256 .f32) (z : Fin 1) (d : Fin 256) : k1_pay7 s (ix2 z d) = s (ix2 (0 : Fin 128) d) := by
  pointwise [k1_pay7]

theorem pay8_at (s : FVec Ideal S128x1 .f32) (z z' : Fin 1) : k1_pay8 s (ix2 z z') = s (ix2 (0 : Fin 128) (0 : Fin 1)) := by
  pointwise [k1_pay8]

theorem pay9_at (o : Vec Ideal S1x128x1 .f32) (i : Fin 128) (z : Fin 1) : k1_pay9 o (ix2 i z) = o (ix3 (0 : Fin 1) i (0 : Fin 1)) := by
  pointwise [k1_pay9]

theorem pay19_at (a : FVec Ideal S1x256 .f32) (a' : FVec Ideal S1x1 .f32) (b : BitVec 32) (o c : FVec Ideal S128x1 .f32) (g s : FVec Ideal S128x256 .f32)
    (n : FVec Ideal S128x1 .f32) (v : BitVec 1) (p q : Ideal .f32) (r : Vec Ideal S1x128x256 .f32) (pe : Vec Ideal S128x256 .f32) (z : Fin 1) (i : Fin 128) (d : Fin 256) :
    k1_pay19 a a' b o c g s n v p q r pe (ix3 z i d)
      = r (ix3 (0 : Fin 1) i d) + pe (ix2 i d) + g (ix2 i d)
        + Scalar.select (IntOp.ori (BitVec.ofBool (decide (0 < o (ix2 i (0 : Fin 1)))))
            (IntOp.cmpi .eq (IntOp.addi (Scalar.muli b 128#32) (BitVec.ofNat 32 i.val)) 0#32))
          (Ideal.div (k1_pay17 a c s v p q (ix2 i d)) (k1_pay18 a' c n v p q (ix2 i (0 : Fin 1)))) 0 := by
  unfold k1_pay19
  generalize k1_pay17 a c s v p q = y
  generalize k1_pay18 a' c n v p q = w
  pointwise

end Cert.KernelIdeal.PayloadB
-- ==== Proof.Segments.lean ====
module

public import proofs.«01_k».proof.Proof.Maths

/-! # Sums over segments, and the same sums taken block by block from the end -/

@[expose] public section
namespace Cert.Segments

/-- The number of the segment a position lies in: the marks up to and including it. -/
def cum (m : ℕ → ℕ) (t : ℕ) : ℕ := ∑ j ∈ Finset.range (t + 1), m j

/-- The sum from a position to the end of its segment. -/
noncomputable def tail (m : ℕ → ℕ) (f : ℕ → ℝ) (t : ℕ) : ℝ :=
  ∑ s ∈ Finset.range 2048, if t ≤ s ∧ cum m s = cum m t then f s else 0

/-- The marks of a block up to and including a position. -/
def cumIn (m : ℕ → ℕ) (b : ℕ) (i : Fin 128) : ℕ := ∑ j : Fin 128, if j ≤ i then m (b * 128 + j.val) else 0

theorem cum_mono (m : ℕ → ℕ) {s t : ℕ} (h : s ≤ t) : cum m s ≤ cum m t :=
  Finset.sum_le_sum_of_subset (Finset.range_mono (by omega))

theorem cum_succ (m : ℕ → ℕ) (t : ℕ) : cum m (t + 1) = cum m t + m (t + 1) := Finset.sum_range_succ _ _

theorem cumIn_eq (m : ℕ → ℕ) (b : ℕ) (i : Fin 128) : cumIn m b i = ∑ j ∈ Finset.range (i.val + 1), m (b * 128 + j) := by
  have h : cumIn m b i = ∑ j ∈ Finset.range 128, if j ≤ i.val then m (b * 128 + j) else 0 := by
    rw [cumIn, Finset.sum_range]
    rfl
  rw [h, ← Finset.sum_filter]
  refine Finset.sum_congr ?_ fun _ _ => rfl
  ext j
  simp only [Finset.mem_filter, Finset.mem_range]
  omega

theorem cum_block (m : ℕ → ℕ) (b : ℕ) (i : Fin 128) :
    cum m (b * 128 + i.val) = ∑ j ∈ Finset.range (b * 128), m j + cumIn m b i := by
  rw [cum, cumIn_eq, Nat.add_assoc, Finset.sum_range_add]

theorem tail_end (m : ℕ → ℕ) (f : ℕ → ℝ) : tail m f 2048 = 0 := by
  refine Finset.sum_eq_zero fun s hs => if_neg ?_
  have := Finset.mem_range.mp hs
  omega

/-- Block by block from the end. -/
theorem tail_block (m : ℕ → ℕ) (f : ℕ → ℝ) (b : ℕ) (hb : b < 16) (i : Fin 128) :
    tail m f (b * 128 + i.val)
      = (∑ j : Fin 128, (if cumIn m b i = cumIn m b j ∧ i ≤ j then 1 else 0) * f (b * 128 + j.val))
        + (if cumIn m b i = cumIn m b 127 then (if b < 15 ∧ m ((b + 1) * 128) = 0 then 1 else 0) else 0) * tail m f ((b + 1) * 128) := by
  set t := b * 128 + i.val with ht
  have hi := i.isLt
  have hsplit : tail m f t = (∑ s ∈ Finset.Ico 0 (b * 128), if t ≤ s ∧ cum m s = cum m t then f s else 0)
      + (∑ s ∈ Finset.Ico (b * 128) ((b + 1) * 128), if t ≤ s ∧ cum m s = cum m t then f s else 0)
      + (∑ s ∈ Finset.Ico ((b + 1) * 128) 2048, if t ≤ s ∧ cum m s = cum m t then f s else 0) := by
    rw [Finset.sum_Ico_consecutive _ (by omega) (by omega), Finset.sum_Ico_consecutive _ (by omega) (by omega), tail, Finset.range_eq_Ico]
  rw [hsplit]
  have h1 : (∑ s ∈ Finset.Ico 0 (b * 128), if t ≤ s ∧ cum m s = cum m t then f s else 0) = 0 := by
    refine Finset.sum_eq_zero fun s hs => if_neg ?_
    have := (Finset.mem_Ico.mp hs).2
    omega
  have h2 : (∑ s ∈ Finset.Ico (b * 128) ((b + 1) * 128), if t ≤ s ∧ cum m s = cum m t then f s else 0)
      = ∑ j : Fin 128, (if cumIn m b i = cumIn m b j ∧ i ≤ j then 1 else 0) * f (b * 128 + j.val) := by
    rw [Finset.sum_Ico_eq_sum_range, show (b + 1) * 128 - b * 128 = 128 by omega, Finset.sum_range]
    refine Finset.sum_congr rfl fun j _ => ?_
    rw [ite_mul, one_mul, zero_mul]
    refine if_congr ?_ rfl rfl
    rw [ht, cum_block, cum_block, Fin.le_def]
    constructor
    · rintro ⟨h, h'⟩; exact ⟨by omega, by omega⟩
    · rintro ⟨h, h'⟩; exact ⟨by omega, by omega⟩
  rw [h1, h2, zero_add]
  congr 1
  have hlast : cum m ((b + 1) * 128 - 1) = ∑ j ∈ Finset.range (b * 128), m j + cumIn m b 127 := by
    rw [← cum_block]
    exact congrArg (cum m) (by show (b + 1) * 128 - 1 = b * 128 + 127; omega)
  have ht' : cum m t = ∑ j ∈ Finset.range (b * 128), m j + cumIn m b i := by rw [ht, cum_block]
  have hnext : cum m ((b + 1) * 128) = cum m ((b + 1) * 128 - 1) + m ((b + 1) * 128) := by
    have := cum_succ m ((b + 1) * 128 - 1)
    rwa [show (b + 1) * 128 - 1 + 1 = (b + 1) * 128 by omega] at this
  have hle : cum m t ≤ cum m ((b + 1) * 128 - 1) := cum_mono m (by omega)
  have hout : (∑ s ∈ Finset.Ico 0 ((b + 1) * 128), if (b + 1) * 128 ≤ s ∧ cum m s = cum m ((b + 1) * 128) then f s else 0) = 0 := by
    refine Finset.sum_eq_zero fun s hs => if_neg ?_
    have := (Finset.mem_Ico.mp hs).2
    omega
  have hcarry : tail m f ((b + 1) * 128) = ∑ s ∈ Finset.Ico ((b + 1) * 128) 2048, if cum m s = cum m ((b + 1) * 128) then f s else 0 := by
    rw [tail, Finset.range_eq_Ico, ← Finset.sum_Ico_consecutive _ (Nat.zero_le _) (show (b + 1) * 128 ≤ 2048 by omega), hout, zero_add]
    refine Finset.sum_congr rfl fun s hs => if_congr ?_ rfl rfl
    have := (Finset.mem_Ico.mp hs).1
    exact ⟨fun h => h.2, fun h => ⟨this, h⟩⟩
  by_cases hc : cumIn m b i = cumIn m b 127
  · rw [if_pos hc]
    by_cases hg : b < 15 ∧ m ((b + 1) * 128) = 0
    · rw [if_pos hg, one_mul, hcarry]
      refine Finset.sum_congr rfl fun s hs => if_congr ?_ rfl rfl
      have := (Finset.mem_Ico.mp hs).1
      constructor
      · rintro ⟨_, h⟩; omega
      · intro h; exact ⟨by omega, by omega⟩
    · rw [if_neg hg, zero_mul]
      refine Finset.sum_eq_zero fun s hs => if_neg ?_
      obtain ⟨ha, hb'⟩ := Finset.mem_Ico.mp hs
      rintro ⟨_, h⟩
      have h3 := cum_mono m ha
      exact hg ⟨by omega, by omega⟩
  · rw [if_neg hc, zero_mul]
    refine Finset.sum_eq_zero fun s hs => if_neg ?_
    obtain ⟨ha, hb'⟩ := Finset.mem_Ico.mp hs
    rintro ⟨_, h⟩
    have h3 := cum_mono m ha
    omega

end Cert.Segments
-- ==== Proof.KernelIdeal.StageBReal.lean ====
module

public import proofs.«01_k».proof.Proof.KernelIdeal.StageBTrip
public import proofs.«01_k».proof.Proof.KernelIdeal.PayloadB
public import proofs.«01_k».proof.Proof.Segments

/-! # The second call's loop over real numbers -/

@[expose] public section
set_option maxRecDepth 16384
open Idealize Idealize.SL Idealize.ShloMosaic
namespace Cert.KernelIdeal.StageB
open Cert.KernelIdeal Cert.KernelIdeal.Gen Cert.KernelIdeal.PayloadB Cert.Maths Cert.Segments Idealize.ShloMosaic.TcCoe

/-- What the loop starts from: marks `m`, and embeddings that normalise to `g`. -/
structure In1 (m : ℕ → ℕ) (g : ℕ → Fin 256 → ℝ) (x0 : Vec Ideal S1x2048x256 .bf16) (x2 : Vec Ideal S1x2048x1 .f32)
    (x4 x5 : Vec Ideal S1x1 .f32) : Prop where
  le : ∀ p, m p ≤ 1
  marks : ∀ p : Fin 2048, x2 (ix3 (0 : Fin 1) p (0 : Fin 1)) = (((m p.val : ℕ) : ℝ) : EReal)
  normal : ∀ (p : Fin 2048) (e : Fin 256), (x0 (ix3 (0 : Fin 1) p e) - x4 (ix2 (0 : Fin 1) (0 : Fin 1))) * x5 (ix2 (0 : Fin 1) (0 : Fin 1)) = (g p.val e : EReal)

variable {m : ℕ → ℕ} {g : ℕ → Fin 256 → ℝ} {x0 : Vec Ideal S1x2048x256 .bf16} {x2 : Vec Ideal S1x2048x1 .f32} {x4 x5 : Vec Ideal S1x1 .f32}

theorem coe_ite (p : Prop) [Decidable p] : (if p then (1 : EReal) else 0) = ((if p then (1 : ℝ) else 0 : ℝ) : EReal) := by
  split <;> simp

theorem cum_at (H : In1 m g x0 x2 x4 x5) (k : Fin k1_t1_loop.trips) (i : Fin 128) (z : Fin 1) :
    k1_pay10 k1_pay3 (oAt x2 k) (ix2 i z) = ((cumIn m (blockOf k) i : ℝ) : EReal) := by
  rw [pay10_at]
  have h : ∀ j : Fin 128, k1_pay3 (F := Ideal) (ix2 i j) * oAt x2 k (ix3 (0 : Fin 1) j (0 : Fin 1))
      = (((if j ≤ i then m (blockOf k * 128 + j.val) else 0 : ℕ) : ℝ) : EReal) := fun j => by
    have e : oAt x2 k (ix3 (0 : Fin 1) j (0 : Fin 1)) = (((m (blockOf k * 128 + j.val) : ℕ) : ℝ) : EReal) := H.marks ⟨blockOf k * 128 + j.val, _⟩
    rw [pay3_at, e]
    split <;> simp
  rw [Finset.sum_congr rfl fun j _ => h j, ← coe_sum, cumIn, Nat.cast_sum]

theorem mask_at (H : In1 m g x0 x2 x4 x5) (k : Fin k1_t1_loop.trips) (i j : Fin 128) :
    k1_pay11 k1_pay3 k1_pay4 (oAt x2 k) (ix2 i j)
      = ((if cumIn m (blockOf k) i = cumIn m (blockOf k) j ∧ i ≤ j then (1 : ℝ) else 0 : ℝ) : EReal) := by
  rw [pay11_at, cum_at H, cum_at H, pay4_at, ← coe_ite]
  have e : ((cumIn m (blockOf k) i : ℝ) : EReal) = ((cumIn m (blockOf k) j : ℝ) : EReal) ↔ cumIn m (blockOf k) i = cumIn m (blockOf k) j := by
    rw [EReal.coe_eq_coe_iff, Nat.cast_inj]
  by_cases h1 : cumIn m (blockOf k) i = cumIn m (blockOf k) j <;> by_cases h2 : i ≤ j
  · rw [if_pos ⟨h1, h2⟩, decide_eq_true (e.mpr h1), decide_eq_true h2]; rfl
  · rw [if_neg (fun h => h2 h.2), decide_eq_true (e.mpr h1), decide_eq_false h2]; rfl
  · rw [if_neg (fun h => h1 h.1), decide_eq_false (fun h => h1 (e.mp h)), decide_eq_true h2]; rfl
  · rw [if_neg (fun h => h1 h.1), decide_eq_false (fun h => h1 (e.mp h)), decide_eq_false h2]; rfl

theorem normal_at (H : In1 m g x0 x2 x4 x5) (k : Fin k1_t1_loop.trips) (i : Fin 128) (d : Fin 256) :
    k1_pay12 (k1_pay1 x4) (k1_pay2 x5) (eAt x0 k) (ix2 i d) = (g (blockOf k * 128 + i.val) d : EReal) := by
  rw [pay12_at, pay1_at, show k1_pay2 x5 = x5 (ix2 (0 : Fin 1) (0 : Fin 1)) from pay1_at x5]
  exact H.normal ⟨blockOf k * 128 + i.val, _⟩ d

theorem sums_in_block (H : In1 m g x0 x2 x4 x5) (k : Fin k1_t1_loop.trips) (i : Fin 128) (d : Fin 256) :
    k1_pay13 (k1_pay1 x4) (k1_pay2 x5) k1_pay3 k1_pay4 (oAt x2 k) (eAt x0 k) (ix2 i d)
      = ((∑ j : Fin 128, (if cumIn m (blockOf k) i = cumIn m (blockOf k) j ∧ i ≤ j then (1 : ℝ) else 0) * g (blockOf k * 128 + j.val) d : ℝ) : EReal) := by
  rw [pay13_at, coe_sum]
  refine Finset.sum_congr rfl fun j _ => ?_
  rw [mask_at H, normal_at H, EReal.coe_mul]

theorem counts_in_block (H : In1 m g x0 x2 x4 x5) (k : Fin k1_t1_loop.trips) (i : Fin 128) (z : Fin 1) :
    k1_pay14 k1_pay3 k1_pay4 (oAt x2 k) (ix2 i z)
      = ((∑ j : Fin 128, (if cumIn m (blockOf k) i = cumIn m (blockOf k) j ∧ i ≤ j then (1 : ℝ) else 0) * 1 : ℝ) : EReal) := by
  rw [pay14_at, coe_sum]
  refine Finset.sum_congr rfl fun j _ => ?_
  rw [mask_at H, mul_one]

theorem before_last : ∀ k : Fin k1_t1_loop.trips, Scalar.cmpi .slt (Scalar.subi 15#32 (Scf.iv 0#32 1#32 k)) 15#32 = BitVec.ofBool (decide (blockOf k < 15)) := by
  decide +kernel

theorem goesOn_at (H : In1 m g x0 x2 x4 x5) (k : Fin k1_t1_loop.trips) :
    goesOn x2 k = BitVec.ofBool (decide (blockOf k < 15 ∧ m ((blockOf k + 1) * 128) = 0)) := by
  unfold goesOn
  rw [pay15_at, before_last]
  have e : nAt x2 k (ix3 (0 : Fin 1) (0 : Fin 1) (0 : Fin 1)) = (((m (nextOf k).val : ℕ) : ℝ) : EReal) := H.marks (nextOf k)
  rw [e, show Scalar.ofBits (F := Ideal) .f32 0x00000000#32 = ((0 : ℝ) : EReal) from Cert.Consts.zero]
  have e2 : Scalar.cmpf (F := Ideal) (φ := .f32) .oeq ((((m (nextOf k).val : ℕ) : ℝ) : EReal)) ((0 : ℝ) : EReal) = BitVec.ofBool (decide (m (nextOf k).val = 0)) := by
    show BitVec.ofBool (decide ((((m (nextOf k).val : ℕ) : ℝ) : EReal) = ((0 : ℝ) : EReal))) = _
    congr 1
    rw [decide_eq_decide, EReal.coe_eq_coe_iff, Nat.cast_eq_zero]
  rw [e2]
  by_cases h : blockOf k < 15
  · have hn : (nextOf k).val = (blockOf k + 1) * 128 := by
      show (if blockOf k < 15 then blockOf k + 1 else 15) * 128 = _
      rw [if_pos h]
    rw [hn, decide_eq_true h]
    by_cases h' : m ((blockOf k + 1) * 128) = 0
    · rw [decide_eq_true h', decide_eq_true ⟨h, h'⟩]; rfl
    · rw [decide_eq_false h', decide_eq_false (show ¬ (blockOf k < 15 ∧ m ((blockOf k + 1) * 128) = 0) from fun q => h' q.2)]; rfl
  · rw [decide_eq_false h, decide_eq_false (show ¬ (blockOf k < 15 ∧ m ((blockOf k + 1) * 128) = 0) from fun q => h q.1)]
    by_cases h' : m (nextOf k).val = 0
    · rw [decide_eq_true h']; rfl
    · rw [decide_eq_false h']; rfl

theorem share_at (H : In1 m g x0 x2 x4 x5) (k : Fin k1_t1_loop.trips) (i : Fin 128) (z : Fin 1) :
    k1_pay16 (k1_pay10 k1_pay3 (oAt x2 k)) (goesOn x2 k) (Scalar.ofBits .f32 0x3F800000#32) (Scalar.ofBits .f32 0x00000000#32) (ix2 i z)
      = ((if cumIn m (blockOf k) i = cumIn m (blockOf k) 127 then (if blockOf k < 15 ∧ m ((blockOf k + 1) * 128) = 0 then (1 : ℝ) else 0) else 0 : ℝ) : EReal) := by
  rw [pay16_at, cum_at H, cum_at H, goesOn_at H, show Scalar.ofBits (F := Ideal) .f32 0x3F800000#32 = ((1 : ℝ) : EReal) from Cert.Consts.one,
    show Scalar.ofBits (F := Ideal) .f32 0x00000000#32 = ((0 : ℝ) : EReal) from Cert.Consts.zero]
  have e : ((cumIn m (blockOf k) i : ℝ) : EReal) = ((cumIn m (blockOf k) 127 : ℝ) : EReal) ↔ cumIn m (blockOf k) i = cumIn m (blockOf k) 127 := by
    rw [EReal.coe_eq_coe_iff, Nat.cast_inj]
  by_cases h1 : cumIn m (blockOf k) i = cumIn m (blockOf k) 127
  · rw [if_pos (e.mpr h1), if_pos h1]
    by_cases h2 : blockOf k < 15 ∧ m ((blockOf k + 1) * 128) = 0
    · rw [if_pos h2, decide_eq_true h2]; rfl
    · rw [if_neg h2, decide_eq_false h2]; rfl
  · rw [if_neg (fun h => h1 (e.mp h)), if_neg h1]; rfl

/-- The carried sums and counts are those of the block after. -/
def Carried (m : ℕ → ℕ) (g : ℕ → Fin 256 → ℝ) (t : ℕ) (acc : FVec Ideal S1x256 .f32 × FVec Ideal S1x1 .f32) : Prop :=
  (∀ (z : Fin 1) (d : Fin 256), acc.1 (ix2 z d) = (tail m (fun s => g s d) t : EReal)) ∧
    ∀ z z' : Fin 1, acc.2 (ix2 z z') = (tail m (fun _ => 1) t : EReal)

theorem sumsAt_at (H : In1 m g x0 x2 x4 x5) (k : Fin k1_t1_loop.trips) {acc} (hc : Carried m g ((blockOf k + 1) * 128) acc) (i : Fin 128) (d : Fin 256) :
    sumsAt x0 x2 x4 x5 k acc (ix2 i d) = (tail m (fun s => g s d) (blockOf k * 128 + i.val) : EReal) := by
  unfold sumsAt
  rw [pay17_at, sums_in_block H, share_at H, hc.1, ← EReal.coe_mul, ← EReal.coe_add, tail_block m _ _ (block_lt k)]

theorem countsAt_at (H : In1 m g x0 x2 x4 x5) (k : Fin k1_t1_loop.trips) {acc} (hc : Carried m g ((blockOf k + 1) * 128) acc) (i : Fin 128) (z : Fin 1) :
    countsAt x2 k acc (ix2 i z) = (tail m (fun _ => 1) (blockOf k * 128 + i.val) : EReal) := by
  unfold countsAt
  rw [pay18_at, counts_in_block H, share_at H, hc.2, ← EReal.coe_mul, ← EReal.coe_add, tail_block m _ _ (block_lt k)]

/-- The result at a position: what is added to the inputs and the embedding is the segment's mean at its first position. -/
noncomputable def mean (m : ℕ → ℕ) (g : ℕ → Fin 256 → ℝ) (p : ℕ) (d : Fin 256) : ℝ :=
  if m p = 1 ∨ p = 0 then tail m (fun s => g s d) p / tail m (fun _ => 1) p else 0

theorem count_pos (m : ℕ → ℕ) (p : ℕ) (hp : p < 2048) : 0 < tail m (fun _ => 1) p :=
  Finset.sum_pos' (fun s _ => by split <;> norm_num) ⟨p, Finset.mem_range.mpr hp, by rw [if_pos ⟨le_refl _, rfl⟩]; norm_num⟩

theorem at_start : ∀ (k : Fin k1_t1_loop.trips) (i : Fin 128),
    IntOp.cmpi .eq (IntOp.addi (Scalar.muli (Scalar.subi 15#32 (Scf.iv 0#32 1#32 k)) 128#32) (BitVec.ofNat 32 i.val)) 0#32
      = BitVec.ofBool (decide (blockOf k * 128 + i.val = 0)) := by
  decide +kernel

theorem outAt_at (H : In1 m g x0 x2 x4 x5) (x1 : Vec Ideal S1x2048x256 .f32) (x3 : Vec Ideal S2048x256 .f32) (k : Fin k1_t1_loop.trips) {acc}
    (hc : Carried m g ((blockOf k + 1) * 128) acc) (z : Fin 1) (i : Fin 128) (d : Fin 256) (p : Fin 2048) (hp : p.val = blockOf k * 128 + i.val) :
    outAt x0 x1 x2 x3 x4 x5 k acc (ix3 z i d)
      = x1 (ix3 (0 : Fin 1) p d) + x3 (ix2 p d) + (g p.val d : EReal) + (mean m g p.val d : EReal) := by
  unfold outAt
  rw [pay19_at, normal_at H, at_start, pay9_at]
  have e1 := sumsAt_at H k hc i d
  have e2 := countsAt_at H k hc i 0
  unfold sumsAt at e1
  unfold countsAt at e2
  have hlt : blockOf k * 128 + i.val < 2048 := hp ▸ p.isLt
  have hpp : p = ⟨blockOf k * 128 + i.val, hlt⟩ := Fin.ext hp
  rw [e1, e2, div_coe_coe _ (count_pos m _ hlt).ne']
  have e : oAt x2 k (ix3 (0 : Fin 1) i (0 : Fin 1)) = (((m (blockOf k * 128 + i.val) : ℕ) : ℝ) : EReal) := H.marks ⟨blockOf k * 128 + i.val, hlt⟩
  have hm := H.le (blockOf k * 128 + i.val)
  have e3 : (0 : EReal) < (((m (blockOf k * 128 + i.val) : ℕ) : ℝ) : EReal) ↔ m (blockOf k * 128 + i.val) = 1 := by
    rw [show (0 : EReal) = ((0 : ℝ) : EReal) from rfl, EReal.coe_lt_coe_iff, Nat.cast_pos]
    omega
  subst hpp
  rw [e]
  show x1 _ + x3 _ + _ + _ = x1 _ + x3 _ + _ + _
  unfold mean
  refine congrArg₂ (· + ·) rfl ?_
  by_cases h1 : m (blockOf k * 128 + i.val) = 1 <;> by_cases h2 : blockOf k * 128 + i.val = 0
  · rw [if_pos (Or.inl h1), decide_eq_true (e3.mpr h1), decide_eq_true h2]; rfl
  · rw [if_pos (Or.inl h1), decide_eq_true (e3.mpr h1), decide_eq_false h2]; rfl
  · rw [if_pos (Or.inr h2), decide_eq_false (fun h => h1 (e3.mp h)), decide_eq_true h2]; rfl
  · rw [if_neg (fun h => h.elim h1 h2), decide_eq_false (fun h => h1 (e3.mp h)), decide_eq_false h2]; rfl

end Cert.KernelIdeal.StageB
-- ==== Proof.KernelIdeal.StageBLoop.lean ====
module

public import proofs.«01_k».proof.Proof.KernelIdeal.StageBReal
public import proofs.«01_k».proof.Proof.KernelIdeal.StageAValue

/-! # The second call's loop, and its result array -/

@[expose] public section
set_option maxRecDepth 16384
open Idealize Idealize.SL Idealize.ShloMosaic
namespace Cert.KernelIdeal.StageB
open Cert.KernelIdeal Cert.KernelIdeal.Gen Cert.KernelIdeal.PayloadB Cert.Maths Cert.Segments Idealize.ShloMosaic.TcCoe

/-- The result of one sequence. -/
noncomputable def resAt (m : ℕ → ℕ) (g : ℕ → Fin 256 → ℝ) (x1 : Vec Ideal S1x2048x256 .f32) (x3 : Vec Ideal S2048x256 .f32) (y : S1x2048x256.Idx) : EReal :=
  x1 y + x3 (ix2 (y 1) (y 2)) + (g (y 1).val (y 2) : EReal) + (mean m g (y 1).val (y 2) : EReal)

theorem trips_eq : k1_t1_loop.trips = 16 := by decide +kernel

section
variable (c : Dev nD) (i : grid1.Coords) (arg1 : Memref sig .tc .vmem S1x2048x256 .bf16) (harg1 : arg1.IsWhole) (arg2 : Memref sig .tc .vmem S1x2048x256 .f32) (harg2 : arg2.IsWhole) (arg3 : Memref sig .tc .vmem S1x2048x1 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x2048x256 .f32) (harg7 : arg7.IsWhole)
    (x0 : Vec Ideal S1x2048x256 .bf16) (x1 : Vec Ideal S1x2048x256 .f32) (x2 : Vec Ideal S1x2048x1 .f32) (x3 : Vec Ideal S2048x256 .f32) (x4 : Vec Ideal S1x1 .f32) (x5 : Vec Ideal S1x1 .f32)
variable {m : ℕ → ℕ} {g : ℕ → Fin 256 → ℝ} (H : In1 m g x0 x2 x4 x5)
include H

theorem piece_at (k : Fin k1_t1_loop.trips) {acc} (hc : Carried m g ((blockOf k + 1) * 128) acc) (y : S1x2048x256.Idx) (x : (⟨3, S1x128x256.size⟩ : Shape).Idx)
    (hx : ∀ a, (y a : ℕ) = k1_off2 k a + x a) : outAt x0 x1 x2 x3 x4 x5 k acc x = resAt m g x1 x3 y := by
  have h1 : (y 1 : ℕ) = blockOf k * 128 + (x 1 : ℕ) := by rw [hx 1, off2_eq k]; rfl
  have h2 : (y 2 : ℕ) = (x 2 : ℕ) := by rw [hx 2, off2_eq k]; exact Nat.zero_add _
  have hx' : x = (ix3 (x 0 : Fin 1) (x 1 : Fin 128) (x 2 : Fin 256) : S1x128x256.Idx) := by
    funext a; fin_cases a <;> rfl
  have hy' : y = (ix3 (0 : Fin 1) (y 1 : Fin 2048) (x 2 : Fin 256) : S1x2048x256.Idx) := by
    have h0 : (y 0).val < 1 := (y 0).isLt
    funext a; fin_cases a
    · exact Fin.ext (by show (y 0).val = 0; omega)
    · rfl
    · exact Fin.ext h2
  have e2 : y 2 = (x 2 : Fin 256) := Fin.ext h2
  rw [hx']
  refine (outAt_at H x1 x3 k hc _ _ _ (y 1) h1).trans ?_
  unfold resAt
  rw [e2]
  exact congrArg (fun q => x1 q + x3 (ix2 (y 1) (x 2)) + (g (y 1).val (x 2) : EReal) + (mean m g (y 1).val (x 2) : EReal)) hy'.symm

theorem state_at (n : ℕ) (hn : n ≤ 16) :
    Carried m g ((16 - n) * 128) (st_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) (k1_pay5, k1_pay6) n).1
      ∧ ∀ y, View.AllAt (st_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) (k1_pay5, k1_pay6) n).2 y (resAt m g x1 x3 y) := by
  induction n with
  | zero =>
    refine ⟨⟨fun z d => ?_, fun z z' => ?_⟩, fun y => View.allAt_nil y _⟩
    · rw [show (16 - 0) * 128 = 2048 from rfl, tail_end]
      exact Cert.Consts.zero
    · rw [show (16 - 0) * 128 = 2048 from rfl, tail_end]
      exact Cert.Consts.zero
  | succ n ih =>
    obtain ⟨hc, hp⟩ := ih (by omega)
    have hk : n < k1_t1_loop.trips := by rw [trips_eq]; omega
    have hb : blockOf ⟨n, hk⟩ + 1 = 16 - n := by show 15 - n + 1 = 16 - n; omega
    rw [← hb] at hc
    have e := st_k1_t1_succ (F := Ideal) Variants.none c none i arg1 harg1 arg2 harg2 arg3 harg3 arg4 harg4 arg5 harg5 arg6 harg6 arg7 harg7 x4 x5 (harg1.unread x0) (harg2.unread x1) (harg3.unread x2) (harg4.unread x3) (k1_pay5, k1_pay6) ⟨n, hk⟩
    rw [tripR_eq, tripL_eq] at e
    rw [show st_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) (k1_pay5, k1_pay6) (n + 1) = _ from e]
    have hb' : (16 - (n + 1)) * 128 = blockOf ⟨n, hk⟩ * 128 + (0 : Fin 128).val := by
      show (16 - (n + 1)) * 128 = (15 - n) * 128 + 0
      omega
    refine ⟨⟨fun z d => ?_, fun z z' => ?_⟩, fun y => ?_⟩
    · rw [hb']
      exact (pay7_at _ z d).trans (sumsAt_at H _ hc 0 d)
    · rw [hb']
      exact (pay8_at _ z z').trans (countsAt_at H _ hc 0 0)
    · exact View.allAt_cons_unit _ _ _ _ _ (fun x hx => piece_at x0 x1 x2 x3 x4 x5 H ⟨n, hk⟩ hc y x hx) (hp y)

theorem out_at (y : S1x2048x256.Idx) :
    out0_A_6 c i arg1 harg1 arg2 harg2 arg3 harg3 arg4 harg4 arg5 harg5 arg6 harg6 arg7 harg7 x0 x1 x2 x3 x4 x5 y = resAt m g x1 x3 y := by
  have hcov := cover0_A_6 (F := Ideal) c i arg1 harg1 arg2 harg2 arg3 harg3 arg4 harg4 arg5 harg5 arg6 harg6 arg7 harg7 x0 x1 x2 x3 x4 x5 y
  unfold out0_A_6
  rw [View.read_writes_junk_apply_eq_canon]
  refine View.canon_eq_of_allAt _ y _ hcov ?_
  have e : (kernelRun0_A (F := Ideal) c i arg1 harg1 arg2 harg2 arg3 harg3 arg4 harg4 arg5 harg5 arg6 harg6 arg7 harg7 x0 x1 x2 x3 x4 x5).1
      = (st_k1_t1 (F := Ideal) Variants.none c none i arg1 harg1 arg2 harg2 arg3 harg3 arg4 harg4 arg5 harg5 arg6 harg6 arg7 harg7 x4 x5 (harg1.unread x0) (harg2.unread x1) (harg3.unread x2) (harg4.unread x3) (k1_pay5, k1_pay6) 16).2 := by
    frame_open
    rw [StageA.ld_whole harg5 x4 inb_S1x1_S1x1_0_0 (by decide), StageA.ld_whole harg6 x5 inb_S1x1_S1x1_0_0 (by decide)]
    rfl
  rw [e]
  exact (state_at c i arg1 harg1 arg2 harg2 arg3 harg3 arg4 harg4 arg5 harg5 arg6 harg6 arg7 harg7 x0 x1 x2 x3 x4 x5 H 16 (le_refl _)).2 y

end

end Cert.KernelIdeal.StageB
-- ==== Proof.KernelIdeal.StageBArray.lean ====
module

public import proofs.«01_k».proof.Proof.KernelIdeal.StageBLoop

/-! # The array the second call leaves -/

@[expose] public section
set_option maxRecDepth 16384
open Idealize Idealize.SL Idealize.ShloMosaic
namespace Cert.KernelIdeal.StageB
open Cert.KernelIdeal Cert.KernelIdeal.Gen Cert.Maths Cert.Segments Idealize.ShloMosaic.TcCoe

/-- What the call starts from: marks and embeddings per sequence. -/
structure Entered (V : (c : Dev nD) → (b : Ref sig .tc) → Buf (Elt Ideal) ((c : Thread nD τ).loc b)) (m : Fin 8 → ℕ → ℕ) (g : Fin 8 → ℕ → Fin 256 → ℝ) (c : Dev nD)
    (E : FVec Ideal S8x2048x256 .bf16) (o : FVec Ideal S8x2048x1 .f32) (mu inv : FVec Ideal S1x1 .f32) : Prop where
  emb : V c main_call0_v112 = E
  mark : V c main_call0_v111 = o
  mid : V c main_call0_v84 = mu
  scale : V c main_call0_v85 = inv
  le : ∀ b p, m b p ≤ 1
  marks : ∀ (b : Fin 8) (p : Fin 2048), o (ix3 b p (0 : Fin 1)) = (((m b p.val : ℕ) : ℝ) : EReal)
  normal : ∀ (b : Fin 8) (p : Fin 2048) (e : Fin 256), (E (ix3 b p e) - mu (ix2 (0 : Fin 1) (0 : Fin 1))) * inv (ix2 (0 : Fin 1) (0 : Fin 1)) = (g b p.val e : EReal)

variable {V : (c : Dev nD) → (b : Ref sig .tc) → Buf (Elt Ideal) ((c : Thread nD τ).loc b)}
variable {m : Fin 8 → ℕ → ℕ} {g : Fin 8 → ℕ → Fin 256 → ℝ} {c : Dev nD}
variable {E : FVec Ideal S8x2048x256 .bf16} {o : FVec Ideal S8x2048x1 .f32} {mu inv : FVec Ideal S1x1 .f32}

theorem lt_points (t : Fin cfg1.N) : t.val < 8 := by have := t.isLt; have : cfg1.N = 8 := N_1; omega

theorem idx_e : ∀ t : Fin grid1.N, win1_0.index t 0 = t.val ∧ win1_0.index t 1 = 0 ∧ win1_0.index t 2 = 0 := by decide +kernel
theorem idx_r : ∀ t : Fin grid1.N, win1_1.index t 0 = t.val ∧ win1_1.index t 1 = 0 ∧ win1_1.index t 2 = 0 := by decide +kernel
theorem idx_o : ∀ t : Fin grid1.N, win1_2.index t 0 = t.val ∧ win1_2.index t 1 = 0 ∧ win1_2.index t 2 = 0 := by decide +kernel
theorem idx_p : ∀ t : Fin grid1.N, win1_3.index t 0 = 0 ∧ win1_3.index t 1 = 0 := by decide +kernel
theorem idx_m : ∀ t : Fin grid1.N, win1_4.index t 0 = 0 ∧ win1_4.index t 1 = 0 := by decide +kernel
theorem idx_i : ∀ t : Fin grid1.N, win1_5.index t 0 = 0 ∧ win1_5.index t 1 = 0 := by decide +kernel
theorem idx_out : ∀ t : Fin grid1.N, win1_6.index t 0 = t.val ∧ win1_6.index t 1 = 0 ∧ win1_6.index t 2 = 0 := by decide +kernel

theorem blk0 (c : Dev nD) (t : Fin cfg1.N) (z : Fin 1) (p : Fin 2048) (e : Fin 256) :
    iblk V c 0 t (ix3 z p e) = V c main_call0_v112 (ix3 (⟨t.val, lt_points t⟩ : Fin 8) p e) := by
  obtain ⟨h0, h1, h2⟩ := idx_e t
  blk_ext [iblk, h0, h1, h2]

theorem blk1 (c : Dev nD) (t : Fin cfg1.N) (z : Fin 1) (p : Fin 2048) (e : Fin 256) :
    iblk V c 1 t (ix3 z p e) = V c main_arg2 (ix3 (⟨t.val, lt_points t⟩ : Fin 8) p e) := by
  obtain ⟨h0, h1, h2⟩ := idx_r t
  blk_ext [iblk, h0, h1, h2]

theorem blk2 (c : Dev nD) (t : Fin cfg1.N) (z : Fin 1) (p : Fin 2048) (e : Fin 1) :
    iblk V c 2 t (ix3 z p e) = V c main_call0_v111 (ix3 (⟨t.val, lt_points t⟩ : Fin 8) p e) := by
  obtain ⟨h0, h1, h2⟩ := idx_o t
  blk_ext [iblk, h0, h1, h2]

theorem blk3 (c : Dev nD) (t : Fin cfg1.N) : iblk V c 3 t = V c main_call0_v109 := by
  obtain ⟨h0, h1⟩ := idx_p t
  funext j
  blk_ext [iblk, h0, h1]

theorem blk4 (c : Dev nD) (t : Fin cfg1.N) : iblk V c 4 t = V c main_call0_v84 := by
  obtain ⟨h0, h1⟩ := idx_m t
  funext j
  blk_ext [iblk, h0, h1]

theorem blk5 (c : Dev nD) (t : Fin cfg1.N) : iblk V c 5 t = V c main_call0_v85 := by
  obtain ⟨h0, h1⟩ := idx_i t
  funext j
  blk_ext [iblk, h0, h1]

theorem enters_at (H : Entered V m g c E o mu inv) (t : Fin cfg1.N) :
    In1 (m ⟨t.val, lt_points t⟩) (g ⟨t.val, lt_points t⟩) (iblk V c 0 t) (iblk V c 2 t) (iblk V c 4 t) (iblk V c 5 t) := by
  refine ⟨H.le _, fun p => ?_, fun p e => ?_⟩
  · rw [blk2, H.mark]; exact H.marks _ p
  · rw [blk0, blk4, blk5, H.emb, H.mid, H.scale]; exact H.normal _ p e

/-- The result, by sequence. -/
noncomputable def resArr (m : Fin 8 → ℕ → ℕ) (g : Fin 8 → ℕ → Fin 256 → ℝ) (r : FVec Ideal S8x2048x256 .f32) (pe : FVec Ideal S2048x256 .f32) : FVec Ideal S8x2048x256 .f32 :=
  fun j => r j + pe (ix2 (j 1) (j 2)) + (g (j 0) (j 1).val (j 2) : EReal) + (mean (m (j 0)) (g (j 0)) (j 1).val (j 2) : EReal)

theorem after_res (H : Entered V m g c E o mu inv) (t : Fin cfg1.N) (y : S1x2048x256.Idx) (j : S8x2048x256.Idx)
    (h0 : (j 0).val = t.val + (y 0).val) (h1 : (j 1).val = (y 1).val) (h2 : (j 2).val = (y 2).val) :
    (dat V c).after 6 t y = resArr m g (V c main_arg2) (V c main_call0_v109) j := by
  have hz : (y 0).val < 1 := (y 0).isLt
  have e0 : j 0 = (⟨t.val, lt_points t⟩ : Fin 8) := Fin.ext (by show (j 0).val = t.val; omega)
  have e1 : j 1 = (y 1 : Fin 2048) := Fin.ext h1
  have e2 : j 2 = (y 2 : Fin 256) := Fin.ext h2
  have ej : j = (ix3 (⟨t.val, lt_points t⟩ : Fin 8) (y 1 : Fin 2048) (y 2 : Fin 256) : S8x2048x256.Idx) := by
    funext a; fin_cases a
    · exact e0
    · exact e1
    · exact e2
  have ey : y = (ix3 (y 0 : Fin 1) (y 1 : Fin 2048) (y 2 : Fin 256) : S1x2048x256.Idx) := by
    funext a; fin_cases a <;> rfl
  rw [after0_6]
  unfold outsAt0
  rw [out_at _ _ _ _ _ _ _ _ _ _ _ _ _ _ _ _ _ _ _ _ _ _ (enters_at H t)]
  unfold resAt
  rw [blk3, show iblk V c 1 t y = _ from (congrArg _ ey).trans (blk1 c t _ _ _), ej]
  rfl

theorem arr_res (H : Entered V m g c E o mu inv) :
    (dat V c).arrAt 6 cfg1.N = resArr m g (V c main_arg2) (V c main_call0_v109) := by
  refine (dat V c).arrAt_eq_of_covers 6 _ (by decide +kernel) fun t hf y => ?_
  blk_simp
  refine after_res H t _ _ ?_ ?_ ?_
  all_goals
    have h0 := idx_out t
    blk_simp [h0.1, h0.2.1, h0.2.2]

end Cert.KernelIdeal.StageB
-- ==== Proof.Moments.lean ====
module

public import proofs.«01_k».proof.Proof.Maths

/-! # The mean and the spread of the embeddings -/

@[expose] public section
namespace Cert.Moments
open Cert.Maths Idealize.ShloMosaic

/-- The mean of all entries. -/
noncomputable def average (f : Fin 16384 → Fin 256 → ℝ) : ℝ := (∑ n, ∑ e, f n e) / 4194304

/-- The mean square distance from the mean. -/
noncomputable def spread (f : Fin 16384 → Fin 256 → ℝ) : ℝ := (∑ n, ∑ e, (f n e - average f) * (f n e - average f)) / 4194304

theorem spread_nonneg (f : Fin 16384 → Fin 256 → ℝ) : 0 ≤ spread f :=
  div_nonneg (Finset.sum_nonneg fun _ _ => Finset.sum_nonneg fun _ _ => mul_self_nonneg _) (by norm_num)

/-- The mean of the squares less the square of the mean. -/
theorem spread_eq (f : Fin 16384 → Fin 256 → ℝ) :
    (∑ n, ∑ e, f n e * f n e) / 4194304 - average f * average f = spread f := by
  have key : ∀ a : ℝ, ∑ n, ∑ e, (f n e - a) * (f n e - a) = (∑ n, ∑ e, f n e * f n e) - 2 * a * (∑ n, ∑ e, f n e) + 4194304 * (a * a) := by
    intro a
    have h1 : ∀ n e, (f n e - a) * (f n e - a) = f n e * f n e - 2 * a * f n e + a * a := fun n e => by ring
    simp only [h1, Finset.sum_add_distrib, Finset.sum_sub_distrib, ← Finset.mul_sum, Finset.sum_const, Finset.card_univ, Fintype.card_fin, nsmul_eq_mul]
    ring
  have hs : ∑ n, ∑ e, f n e = 4194304 * average f := by unfold average; ring
  unfold spread
  rw [key, hs]
  ring

/-- The mean of entries that may be infinite. -/
noncomputable def meanE (F : Fin 16384 → Fin 256 → EReal) : EReal := Ideal.div (∑ n, ∑ e, F n e) ((4194304 : ℝ) : EReal)

/-- Their mean square distance from the mean. -/
noncomputable def spreadE (F : Fin 16384 → Fin 256 → EReal) : EReal :=
  Ideal.div (∑ n, ∑ e, (F n e - meanE F) * (F n e - meanE F)) ((4194304 : ℝ) : EReal)

/-- One over the deviation, with the spread as the mean of the squares less the square of the mean. -/
noncomputable def factorE (F : Fin 16384 → Fin 256 → EReal) (ε : ℝ) : EReal :=
  Ideal.div ((1 : ℝ) : EReal) (Ideal.sqrt (Ideal.div (∑ n, ∑ e, F n e * F n e) ((4194304 : ℝ) : EReal) - meanE F * meanE F + (ε : EReal)))

/-- The entries with the mean taken off, over the deviation. -/
noncomputable def normal (F : Fin 16384 → Fin 256 → EReal) (ε : ℝ) (n : Fin 16384) (e : Fin 256) : ℝ :=
  ((F n e - meanE F) * factorE F ε).toReal

/-- The terms of a sum that is real are real. -/
theorem real_of_sum {ι : Type*} [Fintype ι] [DecidableEq ι] {f : ι → EReal} {r : ℝ} (h : ∑ i, f i = (r : EReal)) (i : ι) : ∃ q : ℝ, f i = (q : EReal) := by
  rw [← Finset.add_sum_erase _ f (Finset.mem_univ i)] at h
  generalize ∑ j ∈ Finset.univ.erase i, f j = b at h
  cases hf : f i with
  | coe q => exact ⟨q, rfl⟩
  | bot => rw [hf, EReal.bot_add] at h; exact absurd h.symm (EReal.coe_ne_bot r)
  | top =>
    rw [hf] at h
    cases b with
    | coe b => rw [EReal.top_add_coe] at h; exact absurd h.symm (EReal.coe_ne_top r)
    | bot => rw [EReal.add_bot] at h; exact absurd h.symm (EReal.coe_ne_bot r)
    | top => rw [EReal.top_add_top] at h; exact absurd h.symm (EReal.coe_ne_top r)

/-- With an infinite entry the mean is infinite. -/
theorem meanE_infinite {F : Fin 16384 → Fin 256 → EReal} (h : ¬ ∃ f : Fin 16384 → Fin 256 → ℝ, ∀ n e, F n e = (f n e : EReal)) :
    meanE F = ⊤ ∨ meanE F = ⊥ := by
  have hN : ((4194304 : ℝ) : EReal) ≠ 0 := by rw [← EReal.coe_zero, Ne, EReal.coe_eq_coe_iff]; norm_num
  have hi : (0 : ℝ) < (4194304 : ℝ)⁻¹ := by norm_num
  unfold meanE Ideal.div
  rw [if_neg hN, ← EReal.coe_inv]
  cases hs : ∑ n, ∑ e, F n e with
  | top => exact Or.inl (EReal.top_mul_coe_of_pos hi)
  | bot => exact Or.inr (EReal.bot_mul_coe_of_pos hi)
  | coe r =>
    refine absurd ?_ h
    have hr : ∀ n e, ∃ q : ℝ, F n e = (q : EReal) := fun n e => by
      obtain ⟨q, hq⟩ := real_of_sum hs n
      exact real_of_sum hq e
    choose f hf using hr
    exact ⟨f, hf⟩

/-- A square of something infinite less an infinite mean is infinite. -/
theorem square_infinite {x μ : EReal} (h : μ = ⊤ ∨ μ = ⊥) : (x - μ) * (x - μ) = ⊤ := by
  have : x - μ = ⊤ ∨ x - μ = ⊥ := by
    rcases h with rfl | rfl
    · exact Or.inr (by rw [sub_eq_add_neg, EReal.neg_top, EReal.add_bot])
    · rw [sub_eq_add_neg, EReal.neg_bot]
      cases x with
      | coe x => exact Or.inl (EReal.coe_add_top x)
      | bot => exact Or.inr (EReal.bot_add _)
      | top => exact Or.inl EReal.top_add_top
  rcases this with h | h <;> rw [h]
  · exact EReal.top_mul_top
  · exact EReal.bot_mul_bot

/-- Both ways of normalising give one real number: taking the mean off and multiplying by the factor, or dividing by the deviation. With an
infinite entry both give zero everywhere. -/
theorem normal_both (F : Fin 16384 → Fin 256 → EReal) {ε : ℝ} (hε : 0 < ε) (n : Fin 16384) (e : Fin 256) :
    (F n e - meanE F) * factorE F ε = (normal F ε n e : EReal)
      ∧ Ideal.div (F n e - meanE F) (Ideal.sqrt (spreadE F + (ε : EReal))) = (normal F ε n e : EReal) := by
  have hN : ((4194304 : ℝ) : EReal) ≠ 0 := by rw [← EReal.coe_zero, Ne, EReal.coe_eq_coe_iff]; norm_num
  suffices h : ∃ r : ℝ, (F n e - meanE F) * factorE F ε = (r : EReal) ∧ Ideal.div (F n e - meanE F) (Ideal.sqrt (spreadE F + (ε : EReal))) = (r : EReal) by
    obtain ⟨r, h1, h2⟩ := h
    have hr : normal F ε n e = r := by unfold normal; rw [h1, EReal.toReal_coe]
    rw [hr]
    exact ⟨h1, h2⟩
  by_cases hF : ∃ f : Fin 16384 → Fin 256 → ℝ, ∀ n e, F n e = (f n e : EReal)
  · obtain ⟨f, hf⟩ := hF
    have hpos : 0 < spread f + ε := add_pos_of_nonneg_of_pos (spread_nonneg f) hε
    have hm : meanE F = (average f : EReal) := by
      unfold meanE
      simp only [hf, ← coe_sum]
      exact div_coe_coe _ (by norm_num)
    have hs : spreadE F = (spread f : EReal) := by
      unfold spreadE
      simp only [hm, hf, ← EReal.coe_sub, ← EReal.coe_mul, ← coe_sum]
      exact div_coe_coe _ (by norm_num)
    have hk : factorE F ε = ((1 / Real.sqrt (spread f + ε) : ℝ) : EReal) := by
      unfold factorE
      simp only [hm, hf, ← EReal.coe_mul, ← coe_sum]
      rw [div_coe_coe _ (by norm_num), ← EReal.coe_sub, spread_eq, ← EReal.coe_add, sqrt_coe hpos.le, div_coe_coe _ (Real.sqrt_pos.2 hpos).ne']
    refine ⟨(f n e - average f) / Real.sqrt (spread f + ε), ?_, ?_⟩
    · rw [hf, hm, hk, ← EReal.coe_sub, ← EReal.coe_mul, mul_one_div]
    · rw [hf, hm, hs, ← EReal.coe_sub, ← EReal.coe_add, sqrt_coe hpos.le, div_coe_coe _ (Real.sqrt_pos.2 hpos).ne']
  · have hm := meanE_infinite hF
    refine ⟨0, ?_, ?_⟩
    · have hq : meanE F * meanE F = ⊤ := by
        rcases hm with h | h <;> rw [h]
        · exact EReal.top_mul_top
        · exact EReal.bot_mul_bot
      have hk : factorE F ε = 0 := by
        unfold factorE
        rw [hq, sub_eq_add_neg, EReal.neg_top, EReal.add_bot, EReal.bot_add]
        show Ideal.div ((1 : ℝ) : EReal) ⊥ = 0
        unfold Ideal.div
        rw [if_neg EReal.bot_ne_zero, EReal.inv_bot, mul_zero]
      rw [hk, mul_zero, EReal.coe_zero]
    · have hs : spreadE F = ⊤ := by
        unfold spreadE
        simp only [square_infinite hm, Finset.sum_const, Finset.card_univ, Fintype.card_fin, EReal.nsmul_eq_mul]
        unfold Ideal.div
        rw [if_neg hN, ← EReal.coe_inv, show ((256 : ℕ) : EReal) = ((256 : ℝ) : EReal) by norm_cast, EReal.coe_mul_top_of_pos (by norm_num),
          show ((16384 : ℕ) : EReal) = ((16384 : ℝ) : EReal) by norm_cast, EReal.coe_mul_top_of_pos (by norm_num), EReal.top_mul_coe_of_pos (by norm_num)]
      rw [hs, EReal.top_add_coe]
      show Ideal.div _ ⊤ = _
      unfold Ideal.div
      rw [if_neg EReal.top_ne_zero, EReal.inv_top, mul_zero, EReal.coe_zero]

/-- The token's place in the flat order. -/
def flat (b : Fin 8) (t : Fin 2048) : Fin 16384 := ⟨b.val * 2048 + t.val, by omega⟩

/-- A sum over sequences and places is a sum over tokens. -/
theorem sum_tokens {M : Type*} [AddCommMonoid M] (F : Fin 16384 → M) : ∑ b : Fin 8, ∑ t : Fin 2048, F (flat b t) = ∑ n, F n := by
  rw [← Fintype.sum_prod_type']
  exact Fintype.sum_equiv (finProdFinEquiv (m := 8) (n := 2048)) _ _
    (fun p => congrArg F (Fin.ext (by simp [flat, finProdFinEquiv]; omega)))

end Cert.Moments
-- ==== Proof.ReferenceIdeal.Emb.lean ====
module

public import proofs.«01_k».proof.Proof.Consts
public import proofs.«01_k».proof.Proof.Inputs
public import proofs.«01_k».proof.Proof.Moments
public import proofs.«01_k».proof.Proof.ReferenceIdeal.Pe

/-! # The reference's embeddings -/

@[expose] public section
set_option maxRecDepth 16384
open Idealize Idealize.SL Idealize.ShloMosaic
namespace Cert.ReferenceIdeal.Value
open Cert.ReferenceIdeal Cert.ReferenceIdeal.Gen Cert.ReferenceIdeal.Read Cert.Maths Cert.Moments

/-- A linear layer over values that are real. -/
theorem lin_coe {n m : ℕ} {y : Fin n → EReal} {w : Fin n → EReal} {z : EReal} {a : Fin n → ℝ} {W : Fin n → Fin m → ℝ} {b : Fin m → ℝ} {j : Fin m}
    (hy : ∀ k, y k = (a k : EReal)) (hw : ∀ k, w k = (W k j : EReal)) (hz : z = (b j : EReal)) :
    ∑ k, y k * w k + z = (lin a W b j : EReal) := by
  simp only [hy, hw, hz, ← EReal.coe_mul, ← coe_sum, ← EReal.coe_add]
  rfl

/-- A linear layer over the extended reals, entry by entry. -/
theorem lin_ext {n m : ℕ} {y : Fin n → EReal} {w : Fin n → EReal} {z : EReal} {a : Fin n → EReal} {W : Fin n → Fin m → EReal} {b : Fin m → EReal} {j : Fin m}
    (hy : ∀ k, y k = a k) (hw : ∀ k, w k = W k j) (hz : z = b j) : ∑ k, y k * w k + z = linE a W b j := by
  simp only [hy, hw, hz]
  rfl

theorem at1 {n : ℕ} {α : Type} {a : (⟨1, ![n]⟩ : Shape).Idx → α} {f : Fin n → α} (h : ∀ i, a (ix1 i) = f i) (i : (⟨1, ![n]⟩ : Shape).Idx) : a i = f (i 0) :=
  (congrArg a (by funext k; fin_cases k; rfl)).trans (h (i 0))

theorem at2 {n m : ℕ} {α : Type} {a : (⟨2, ![n, m]⟩ : Shape).Idx → α} {f : Fin n → Fin m → α} (h : ∀ i j, a (ix2 i j) = f i j)
    (i : (⟨2, ![n, m]⟩ : Shape).Idx) : a i = f (i 0) (i 1) :=
  (congrArg a (by funext k; fin_cases k <;> rfl)).trans (h (i 0) (i 1))

theorem at3 {n m l : ℕ} {α : Type} {a : (⟨3, ![n, m, l]⟩ : Shape).Idx → α} {f : Fin n → Fin m → Fin l → α} (h : ∀ i j k, a (ix3 i j k) = f i j k)
    (i : (⟨3, ![n, m, l]⟩ : Shape).Idx) : a i = f (i 0) (i 1) (i 2) :=
  (congrArg a (by funext k; fin_cases k <;> rfl)).trans (h (i 0) (i 1) (i 2))

/-- `offs` is the table of positions, scaled and shifted. -/
def IsOffs (offs : Fin 16 → Fin 32 → ℝ) : Prop :=
  ∀ f e, val_main_v25 (F := Ideal) (ix2 f e) * Ideal.ofBits .f32 0x3C23D70A#32 + Ideal.ofBits .f32 0x3C23D70A#32 = (offs f e : EReal)

section
variable {P : Params} {x : Fin 8 → Fin 2048 → Fin 512 → ℝ} {o : Fin 8 → Fin 2048 → Fin 2} {offs : Fin 16 → Fin 32 → ℝ}
  {a0 : FVec Ideal S8x2048x512 .f32} {a1 : IVec S8x2048 32}
  {a3 : FVec Ideal S32x32 .f32} {a4 : FVec Ideal S32 .f32} {a5 : FVec Ideal S32x32 .f32}
  {a6 : FVec Ideal S32 .f32} {a7 : FVec Ideal S32x32 .f32} {a8 : FVec Ideal S32 .f32}
  {a9 : FVec Ideal S32x32 .f32} {a10 : FVec Ideal S32 .f32} {a11 : FVec Ideal S32x128 .f32}
  {a12 : FVec Ideal S128 .f32} {a13 : FVec Ideal S128x32 .f32} {a14 : FVec Ideal S32 .f32}
  {a15 : FVec Ideal S512x256 .f32} {a16 : FVec Ideal S256 .f32}
  (H : Holds P x o a0 a1 a3 a4 a5 a6 a7 a8 a9 a10 a11 a12 a13 a14 a15 a16) (hp : IsOffs offs)
include H hp

theorem v32_at (i : S16384x16x32.Idx) : val_main_v32 (F := Ideal) a0 i = (rows x offs (i 0) (i 1) (i 2) : EReal) := by
  rw [val_main_v32_apply, val_main_v30_apply, val_main_v1_apply, val_main_v0_apply, val_main_v29_apply, val_main_v27_apply, val_main_v26_apply,
    val_main_v28_apply, val_main_v31_apply, at3 H.x]
  show (_ + val_main_v25 (F := Ideal) _ * Ideal.ofBits .f32 0x3C23D70A#32) + Ideal.ofBits .f32 0x3C23D70A#32 = _
  rw [add_assoc]
  refine (congrArg (_ + ·) ((congrArg (fun q => val_main_v25 (F := Ideal) q * Ideal.ofBits .f32 0x3C23D70A#32 + Ideal.ofBits .f32 0x3C23D70A#32)
    (show _ = ix2 (i 1) (i 2) by funext k; fin_cases k <;> rfl)).trans (hp (i 1) (i 2)))).trans ?_
  rw [← EReal.coe_add, EReal.coe_eq_coe_iff]
  refine congrArg (· + offs (i 1) (i 2)) ?_
  have h0 : (i 0).val < 16384 := (i 0).isLt
  have h1 : (i 1).val < 16 := (i 1).isLt
  have h2 : (i 2).val < 32 := (i 2).isLt
  refine congr (congr (congrArg x (Fin.ext ?_)) (Fin.ext ?_)) (Fin.ext ?_)
  · show (((i 0).val * 32 + (i 2).val) * 16 + (i 1).val) / 1048576 = (i 0).val / 2048
    omega
  · show (((i 0).val * 32 + (i 2).val) * 16 + (i 1).val) / 512 % 2048 = (i 0).val % 2048
    omega
  · show (((i 0).val * 32 + (i 2).val) * 16 + (i 1).val) % 512 = (i 2).val * 16 + (i 1).val
    omega

theorem v36_at (i : S16384x16x32.Idx) : val_main_v36 (F := Ideal) a0 a3 a4 i = (lin (rows x offs (i 0) (i 1)) P.Wq P.bq (i 2) : EReal) := by
  rw [val_main_v36_apply, val_main_v33_apply, val_main_v35_apply, val_main_v34_apply]
  exact lin_coe (fun k => v32_at H hp _) (fun k => at2 H.Wq _) (at1 H.bq _)

theorem v40_at (i : S16384x16x32.Idx) : val_main_v40 (F := Ideal) a0 a5 a6 i = (lin (rows x offs (i 0) (i 1)) P.Wk P.bk (i 2) : EReal) := by
  rw [val_main_v40_apply, val_main_v37_apply, val_main_v39_apply, val_main_v38_apply]
  exact lin_coe (fun k => v32_at H hp _) (fun k => at2 H.Wk _) (at1 H.bk _)

theorem v44_at (i : S16384x16x32.Idx) : val_main_v44 (F := Ideal) a0 a7 a8 i = (lin (rows x offs (i 0) (i 1)) P.Wv P.bv (i 2) : EReal) := by
  rw [val_main_v44_apply, val_main_v41_apply, val_main_v43_apply, val_main_v42_apply]
  exact lin_coe (fun k => v32_at H hp _) (fun k => at2 H.Wv _) (at1 H.bv _)

theorem v48_at (i : S16384x16x16.Idx) : val_main_v48 (F := Ideal) a0 a3 a4 a5 a6 i = (score P (rows x offs (i 0)) (i 1) (i 2) : EReal) := by
  rw [val_main_v48_apply, val_main_v45_apply, val_main_v47_apply, val_main_v46_apply]
  simp only [v36_at H hp, v40_at H hp, ← EReal.coe_mul, ← coe_sum]
  rw [show FloatOps.hostUnary (F := Ideal) .sqrt (val_main_cst_6 (F := Ideal) (idx_main_v47 i)) = ((√32 : ℝ) : EReal) from
    (congrArg Ideal.sqrt Consts.thirtytwo).trans (sqrt_coe (by norm_num))]
  exact div_coe_coe _ (by positivity)

omit H hp in
/-- The largest of a row. -/
theorem rowMax_ix (y : FVec Ideal S16384x16x16 .f32) (n : Fin 16384) (f : Fin 16) :
    Host.reduce (FloatOps.maximumf (F := Ideal)) y (constant S_ .f32 0xFF800000#32) reducesTo_S16384x16x16_S16384x16_d2 h_S_ (ix2 n f)
      = Finset.fold max (Ideal.ofBits .f32 0xFF800000#32) (fun k : Fin 16 => y (ix3 n f k)) Finset.univ := by
  pointwise

omit H hp in
theorem rowMax_at (y : FVec Ideal S16384x16x16 .f32) (i : S16384x16.Idx) :
    Host.reduce (FloatOps.maximumf (F := Ideal)) y (val_main_cst_7 (F := Ideal)) reducesTo_S16384x16x16_S16384x16_d2 h_S_ i
      = Finset.fold max ⊥ (fun k : Fin 16 => y (ix3 (i 0 : Fin 16384) (i 1 : Fin 16) k)) Finset.univ := by
  rw [← Consts.bottom]
  exact (congrArg _ (show i = ix2 (i 0 : Fin 16384) (i 1 : Fin 16) by funext k; fin_cases k <;> rfl)).trans (rowMax_ix y (i 0) (i 1))

theorem v51_at (i : S16384x16.Idx) : val_main_v51 (F := Ideal) a0 a3 a4 a5 a6 i
    = Finset.fold max ⊥ (fun k : Fin 16 => (score P (rows x offs (i 0)) (i 1) k : EReal)) Finset.univ := by
  rw [val_main_v51_apply, val_main_v50_apply]
  unfold val_main_v49
  rw [rowMax_at]
  simp only [v48_at H hp]
  rw [show val_main_cst_8 (F := Ideal) (idx_main_v50 i) = (⊥ : EReal) from Consts.bottom]
  exact max_eq_right bot_le

theorem v55_at (i : S16384x16x16.Idx) : val_main_v55 (F := Ideal) a0 a3 a4 a5 a6 i
    = Ideal.exp ((score P (rows x offs (i 0)) (i 1) (i 2) : EReal)
        - Finset.fold max ⊥ (fun k : Fin 16 => (score P (rows x offs (i 0)) (i 1) k : EReal)) Finset.univ) := by
  rw [val_main_v55_apply, val_main_v54_apply, val_main_v53_apply, val_main_v52_apply, v48_at H hp, v51_at H hp]
  rfl

theorem v60_at (i : S16384x16x32.Idx) : val_main_v60 (F := Ideal) a0 a3 a4 a5 a6 a7 a8 i = (att P (rows x offs (i 0)) (i 1) (i 2) : EReal) := by
  rw [val_main_v60_apply]
  refine Eq.trans (Finset.sum_congr rfl fun k _ => ?_) (soft_plain (score P (rows x offs (i 0)) (i 1)) (fun g => lin (rows x offs (i 0) g) P.Wv P.bv (i 2)) _ rfl)
  rw [val_main_v59_apply, val_main_v58_apply, val_main_v57_apply, val_main_v56_apply, v44_at H hp, v55_at H hp]
  simp only [v55_at H hp]
  rw [show val_main_cst_9 (F := Ideal) (Shape.Idx.first h_S_) = (0 : EReal) from Consts.zero, zero_add]
  rfl

theorem v64_at (i : S16384x16x32.Idx) : val_main_v64 (F := Ideal) a0 a3 a4 a5 a6 a7 a8 a9 a10 i
    = linE (fun k => (att P (rows x offs (i 0)) (i 1) k : EReal)) (fun k j => (P.Wo k j : EReal)) P.bo (i 2) := by
  rw [val_main_v64_apply, val_main_v61_apply, val_main_v63_apply, val_main_v62_apply]
  exact lin_ext (fun k => v60_at H hp _) (fun k => at2 H.Wo _) (at1 H.bo _)

theorem v69_at (i : S16384x16x128.Idx) : val_main_v69 (F := Ideal) a0 a3 a4 a5 a6 a7 a8 a9 a10 a11 a12 i
    = max (linE (linE (fun k => (att P (rows x offs (i 0)) (i 1) k : EReal)) (fun k j => (P.Wo k j : EReal)) P.bo) (fun k j => (P.W1 k j : EReal)) P.b1 (i 2)) 0 := by
  rw [val_main_v69_apply, val_main_v68_apply, val_main_v65_apply, val_main_v67_apply, val_main_v66_apply]
  refine congrArg₂ max ?_ Consts.zero
  exact lin_ext (fun k => v64_at H hp _) (fun k => at2 H.W1 _) (at1 H.b1 _)

theorem v73_at (i : S16384x16x32.Idx) : val_main_v73 (F := Ideal) a0 a3 a4 a5 a6 a7 a8 a9 a10 a11 a12 a13 a14 i
    = ffn P (att P (rows x offs (i 0)) (i 1)) (i 2) := by
  rw [val_main_v73_apply, val_main_v70_apply, val_main_v72_apply, val_main_v71_apply]
  exact lin_ext (fun k => v69_at H hp _) (fun k => at2 H.W2 _) (at1 H.b2 _)

theorem v79_at (i : S8x2048x256.Idx) : val_main_v79 (F := Ideal) a0 a3 a4 a5 a6 a7 a8 a9 a10 a11 a12 a13 a14 a15 a16 i
    = emb P (rows x offs (flat (i 0) (i 1))) (i 2) := by
  rw [val_main_v79_apply, val_main_v76_apply, val_main_v78_apply, val_main_v77_apply]
  refine lin_ext (fun k => ?_) (fun k => at2 H.Wout _) (at1 H.bout _)
  rw [val_main_v75_apply, val_main_v74_apply, v73_at H hp]
  have h0 : (i 0).val < 8 := (i 0).isLt
  have h1 : (i 1).val < 2048 := (i 1).isLt
  have hk := k.isLt
  have e0 : (⟨(((i 0).val * 2048 + (i 1).val) * 512 + k.val) / 512, by omega⟩ : Fin 16384) = flat (i 0) (i 1) :=
    Fin.ext (by show (((i 0).val * 2048 + (i 1).val) * 512 + k.val) / 512 = (i 0).val * 2048 + (i 1).val; omega)
  have e1 : (⟨(((i 0).val * 2048 + (i 1).val) * 512 + k.val) / 16 % 32, by omega⟩ : Fin 32) = ⟨k.val / 16, by omega⟩ :=
    Fin.ext (by show (((i 0).val * 2048 + (i 1).val) * 512 + k.val) / 16 % 32 = k.val / 16; omega)
  have e2 : (⟨(((i 0).val * 2048 + (i 1).val) * 512 + k.val) % 16, by omega⟩ : Fin 16) = ⟨k.val % 16, by omega⟩ :=
    Fin.ext (by show (((i 0).val * 2048 + (i 1).val) * 512 + k.val) % 16 = k.val % 16; omega)
  show ffn P (att P (rows x offs (⟨_, _⟩ : Fin 16384)) (⟨_, _⟩ : Fin 16)) (⟨_, _⟩ : Fin 32) = _
  exact congrArg₂ (ffn P) (congrArg₂ (att P) (congrArg (rows x offs) e0) e2) e1

end

end Cert.ReferenceIdeal.Value
-- ==== Proof.ReferenceIdeal.Norm.lean ====
module

public import proofs.«01_k».proof.Proof.ReferenceIdeal.Emb

/-! # The reference's normalised embeddings -/

@[expose] public section
set_option maxRecDepth 16384
open Idealize Idealize.SL Idealize.ShloMosaic
namespace Cert.ReferenceIdeal.Value
open Cert.ReferenceIdeal Cert.ReferenceIdeal.Gen Cert.ReferenceIdeal.Read Cert.Maths Cert.Moments

/-- The host's sum of everything, started from zero. -/
theorem total {y : FVec Ideal S8x2048x256 .f32} {F : Fin 16384 → Fin 256 → EReal} (h : ∀ i, y i = F (flat (i 0) (i 1)) (i 2)) {z : EReal}
    (hz : z = ((0 : ℝ) : EReal)) : z + ∑ j : S8x2048x256.Idx, y j = ∑ n, ∑ e, F n e := by
  rw [hz, EReal.coe_zero, zero_add, ← sum_tokens (fun n => ∑ e, F n e)]
  refine (sum_idx3 (n0 := 8) (n1 := 2048) (n2 := 256) y).trans ?_
  exact Finset.sum_congr rfl fun b _ => Finset.sum_congr rfl fun t _ => Finset.sum_congr rfl fun e _ => h (ix3 b t e)

section
variable {P : Params} {x : Fin 8 → Fin 2048 → Fin 512 → ℝ} {o : Fin 8 → Fin 2048 → Fin 2} {offs : Fin 16 → Fin 32 → ℝ}
  {a0 : FVec Ideal S8x2048x512 .f32} {a1 : IVec S8x2048 32}
  {a3 : FVec Ideal S32x32 .f32} {a4 : FVec Ideal S32 .f32} {a5 : FVec Ideal S32x32 .f32}
  {a6 : FVec Ideal S32 .f32} {a7 : FVec Ideal S32x32 .f32} {a8 : FVec Ideal S32 .f32}
  {a9 : FVec Ideal S32x32 .f32} {a10 : FVec Ideal S32 .f32} {a11 : FVec Ideal S32x128 .f32}
  {a12 : FVec Ideal S128 .f32} {a13 : FVec Ideal S128x32 .f32} {a14 : FVec Ideal S32 .f32}
  {a15 : FVec Ideal S512x256 .f32} {a16 : FVec Ideal S256 .f32}
  (H : Holds P x o a0 a1 a3 a4 a5 a6 a7 a8 a9 a10 a11 a12 a13 a14 a15 a16) (hp : IsOffs offs)
include H hp

/-- All embeddings. -/
noncomputable def embs (P : Params) (x : Fin 8 → Fin 2048 → Fin 512 → ℝ) (offs : Fin 16 → Fin 32 → ℝ) (n : Fin 16384) (e : Fin 256) : EReal :=
  emb P (rows x offs n) e

theorem v81_at (i : S_.Idx) : val_main_v81 (F := Ideal) a0 a3 a4 a5 a6 a7 a8 a9 a10 a11 a12 a13 a14 a15 a16 i
    = meanE (embs P x offs) := by
  rw [val_main_v81_apply, val_main_v80_apply, total (F := embs P x offs) (v79_at H hp) (show val_main_cst_10 (F := Ideal) (Shape.Idx.first h_S_) = _ from Consts.zero)]
  exact congrArg (Ideal.div _) Consts.count

theorem v83_at (i : S8x2048x256.Idx) : val_main_v83 (F := Ideal) a0 a3 a4 a5 a6 a7 a8 a9 a10 a11 a12 a13 a14 a15 a16 i
    = embs P x offs (flat (i 0) (i 1)) (i 2) - meanE (embs P x offs) := by
  rw [val_main_v83_apply, val_main_v82_apply, v81_at H hp, v79_at H hp]
  rfl

theorem call3_v5_at (i : S8x2048x256.Idx) : val_main_call3_v5 (F := Ideal) a0 a3 a4 a5 a6 a7 a8 a9 a10 a11 a12 a13 a14 a15 a16 i
    = embs P x offs (flat (i 0) (i 1)) (i 2) - meanE (embs P x offs) := by
  rw [val_main_call3_v5_apply, val_main_call3_v4_apply, val_main_call3_v3_apply, val_main_call3_v1_apply, val_main_call3_v2_apply,
    val_main_call3_v0_apply, total (F := embs P x offs) (v79_at H hp) (show val_main_call3_cst (F := Ideal) (Shape.Idx.first h_S_) = _ from Consts.zero), v79_at H hp]
  exact congrArg (embs P x offs (flat (i 0) (i 1)) (i 2) - ·) (congrArg (Ideal.div _) Consts.count)

omit H hp in
theorem call3_v8_at (i : S_.Idx) : val_main_call3_v8 (F := Ideal) i = ((4194304 : ℝ) : EReal) := by
  rw [val_main_call3_v8_apply]
  refine (congrArg (· - (((0#32).toInt : ℝ) : EReal)) Consts.count).trans ?_
  rw [← EReal.coe_sub]
  norm_num

theorem call3_v10_at (i : S_.Idx) : val_main_call3_v10 (F := Ideal) a0 a3 a4 a5 a6 a7 a8 a9 a10 a11 a12 a13 a14 a15 a16 i
    = spreadE (embs P x offs) := by
  rw [val_main_call3_v10_apply, val_main_call3_v9_apply, call3_v8_at,
    total (F := fun n e => (embs P x offs n e - meanE (embs P x offs)) * (embs P x offs n e - meanE (embs P x offs)))
      (fun i => by rw [val_main_call3_v6_apply, call3_v5_at H hp]; rfl) (show val_main_call3_cst_2 (F := Ideal) (Shape.Idx.first h_S_) = _ from Consts.zero)]
  rfl

omit H hp in
theorem call3_v11_at (i : S_.Idx) : val_main_call3_v11 (F := Ideal) i = 1#1 := by
  rw [val_main_call3_v11_apply, call3_v8_at, val_main_call3_cst_3_apply]
  show BitVec.ofBool (decide (Ideal.ofBits .f32 0x00000000#32 < ((4194304 : ℝ) : EReal))) = 1#1
  rw [Consts.zero, decide_eq_true (EReal.coe_lt_coe_iff.mpr (by norm_num))]
  rfl

theorem v84_at (i : S_.Idx) : val_main_v84 (F := Ideal) a0 a3 a4 a5 a6 a7 a8 a9 a10 a11 a12 a13 a14 a15 a16 i
    = spreadE (embs P x offs) := by
  rw [val_main_v84_apply, call3_v11_at, call3_v10_at H hp]
  rfl

theorem v88_at {ε : ℝ} (hε : 0 < ε) (he : Ideal.ofBits .f32 0x322BCC77#32 = (ε : EReal)) (i : S8x2048x256.Idx) :
    val_main_v88 (F := Ideal) a0 a3 a4 a5 a6 a7 a8 a9 a10 a11 a12 a13 a14 a15 a16 i
      = (normal (embs P x offs) ε (flat (i 0) (i 1)) (i 2) : EReal) := by
  rw [val_main_v88_apply, val_main_v87_apply, val_main_v86_apply, val_main_v85_apply, v84_at H hp, v83_at H hp]
  refine (congrArg (fun q => Ideal.div _ (Ideal.sqrt (spreadE (embs P x offs) + q))) he).trans ?_
  exact (normal_both (embs P x offs) hε _ _).2

end

end Cert.ReferenceIdeal.Value
-- ==== Proof.ReferenceIdeal.BlockOps.lean ====
module

public import proofs.«01_k».proof.Proof.ReferenceIdeal.Norm
public import proofs.«01_k».proof.Proof.Segments
public import Idealize.ShloMosaic.Lib.Routing.OpsOne

/-! # Running sums, row scatters and row gathers -/

@[expose] public section
set_option maxRecDepth 16384
open Idealize Idealize.SL Idealize.ShloMosaic
namespace Cert.ReferenceIdeal.BlockOps
open Cert.ReferenceIdeal Cert.ReferenceIdeal.Gen Cert.Segments

/-- A running sum along the rows of a table, read in one row, is that row's own running sum. -/
theorem window_row {A N L : ℕ} (x : IVec ⟨2, ![A, N]⟩ 32) (init : IVec S_ 32)
    (h : (⟨2, ![A, N]⟩ : Shape).ReduceWindows (![1, N] : Fin 2 → Nat) ![1, 1] ![0, L] ![0, 0] ⟨2, ![A, N]⟩)
    (h' : (⟨2, ![1, N]⟩ : Shape).ReduceWindows (![1, N] : Fin 2 → Nat) ![1, 1] ![0, L] ![0, 0] ⟨2, ![1, N]⟩)
    (hu : 0 < S_.numel) (b : Fin A) (j : Fin N) :
    Host.reduceWindow IntOp.addi ![1, N] ![1, 1] ![0, L] ![0, 0] x init h hu (ix2 b j)
      = Host.reduceWindow IntOp.addi ![1, N] ![1, 1] ![0, L] ![0, 0] (fun i : (⟨2, ![1, N]⟩ : Shape).Idx => x (ix2 b (i 1))) init h' hu (ix2 0 j) := by
  unfold Host.reduceWindow
  refine congrArg (fun g => List.foldl g _ _) (funext₂ fun r n => congrArg (IntOp.addi r) ?_)
  have h0 : ((⟨2, ![1, N]⟩ : Shape).rowMajor.symm n 0).val = 0 := by
    have := ((⟨2, ![1, N]⟩ : Shape).rowMajor.symm n 0).isLt
    change _ < 1 at this
    omega
  have hb := b.isLt
  by_cases q : L ≤ j.val * 1 + ((⟨2, ![1, N]⟩ : Shape).rowMajor.symm n 1).val ∧ j.val * 1 + ((⟨2, ![1, N]⟩ : Shape).rowMajor.symm n 1).val - L < N
  · rw [dif_pos, dif_pos]
    · refine congrArg x (funext fun a => Fin.ext ?_)
      match a with
      | ⟨0, _⟩ =>
        show b.val * 1 + ((⟨2, ![1, N]⟩ : Shape).rowMajor.symm n 0).val - 0 = b.val
        rw [h0]; omega
      | ⟨1, _⟩ => rfl
    · intro a
      match a with
      | ⟨0, _⟩ =>
        show 0 ≤ 0 * 1 + ((⟨2, ![1, N]⟩ : Shape).rowMajor.symm n 0).val ∧ 0 * 1 + ((⟨2, ![1, N]⟩ : Shape).rowMajor.symm n 0).val - 0 < 1
        rw [h0]; omega
      | ⟨1, _⟩ => exact q
    · intro a
      match a with
      | ⟨0, _⟩ =>
        show 0 ≤ b.val * 1 + ((⟨2, ![1, N]⟩ : Shape).rowMajor.symm n 0).val ∧ b.val * 1 + ((⟨2, ![1, N]⟩ : Shape).rowMajor.symm n 0).val - 0 < A
        rw [h0]; omega
      | ⟨1, _⟩ => exact q
  · rw [dif_neg (fun w => q (w 1)), dif_neg (fun w => q (w 1))]

theorem sum_list_range (f : ℕ → ℕ) (n : ℕ) : ((List.range n).map f).sum = ∑ i ∈ Finset.range n, f i := rfl

/-- The running sum of the marks. -/
theorem cumsum_at (x : IVec S8x2048 32) (m : Fin 8 → ℕ → ℕ) (hx : ∀ b (t : Fin 2048), x (ix2 b t) = BitVec.ofNat 32 (m b t.val))
    (init : IVec S_ 32) (hinit : init ix0 = 0#32) (b : Fin 8) (t : Fin 2048) :
    Host.reduceWindow IntOp.addi ![1, 2048] ![1, 1] ![0, 2047] ![0, 0] x init reduceWindows_S8x2048_S8x2048_w1s1p0_0_w2048s1p2047_0 h_S_ (ix2 b t)
      = BitVec.ofNat 32 (cum (m b) t.val) := by
  have h' : (⟨2, ![1, 2048]⟩ : Shape).ReduceWindows (![1, 2048] : Fin 2 → Nat) ![1, 1] ![0, 2047] ![0, 0] ⟨2, ![1, 2048]⟩ := by decide
  refine (window_row (A := 8) (N := 2048) (L := 2047) x init _ h' h_S_ b t).trans ?_
  exact (Routing.cumsum2 (N := 2048) (Nm1 := 2047) rfl _ (m b) (fun i => hx b i) init hinit h' h_S_ t).trans
    (congrArg (BitVec.ofNat 32) (sum_list_range _ _))

/-- Row `n` of the updates lands in row `k` when its index word is `k`. -/
theorem row_lands (idx : IVec S16384x1 32) (n k : Fin 16384) (e' e : Fin 256) :
    scatter_S16384x256_S16384x1_S16384x256_1_0_0_1.resultIdx? (ix2 n e') idx = some (ix2 k e)
      ↔ (idx (ix2 n (0 : Fin 1))).toInt = (k.val : Int) ∧ e' = e := by
  rw [Routing.resultIdx?_eq_some]
  have s0 : scatter_S16384x256_S16384x1_S16384x256_1_0_0_1.start (ix2 n e') idx 0 = (idx (ix2 n (0 : Fin 1))).toInt :=
    congrArg (fun q => (idx q).toInt) (by funext a; fin_cases a <;> rfl)
  have s1 : scatter_S16384x256_S16384x1_S16384x256_1_0_0_1.start (ix2 n e') idx 1 = 0 := rfl
  have w0 : scatter_S16384x256_S16384x1_S16384x256_1_0_0_1.window (ix2 n e') 0 = 0 := rfl
  have w1 : scatter_S16384x256_S16384x1_S16384x256_1_0_0_1.window (ix2 n e') 1 = e'.val := rfl
  constructor
  · intro h
    have h0 := h 0
    have h1 := h 1
    rw [s0, w0] at h0
    rw [s1, w1] at h1
    change _ = (k.val : Int) at h0
    change _ = (e.val : Int) at h1
    exact ⟨by omega, Fin.ext (by omega)⟩
  · rintro ⟨h, rfl⟩ a
    match a with
    | ⟨0, _⟩ =>
      refine (congrArg₂ (fun p (q : ℕ) => p + (q : Int)) s0 w0).trans ?_
      show _ = (k.val : Int)
      simpa using h
    | ⟨1, _⟩ =>
      refine (congrArg₂ (fun p (q : ℕ) => p + (q : Int)) s1 w1).trans ?_
      show _ = (e'.val : Int)
      omega

/-- Rows scattered by their keys: the sum of the rows with the key. -/
theorem scatter_rows (x : FVec Ideal S16384x256 .f32) (hx : ∀ i, x i = ((0 : ℝ) : EReal)) (idx : IVec S16384x1 32) (key : Fin 16384 → ℕ)
    (hk : ∀ n, idx (ix2 n (0 : Fin 1)) = BitVec.ofNat 32 (key n)) (hlt : ∀ n, key n < 16384) (u : FVec Ideal S16384x256 .f32) (U : Fin 16384 → Fin 256 → ℝ)
    (hu : ∀ n e, u (ix2 n e) = (U n e : EReal)) (k : Fin 16384) (e : Fin 256) :
    Host.scatterAdd scatter_S16384x256_S16384x1_S16384x256_1_0_0_1 x idx u (ix2 k e)
      = ((∑ n, if key n = k.val then U n e else 0 : ℝ) : EReal) := by
  show x (ix2 k e) + ∑ j ∈ Finset.univ.filter (fun j => scatter_S16384x256_S16384x1_S16384x256_1_0_0_1.resultIdx? j idx = some (ix2 k e)), u j = _
  rw [hx, EReal.coe_zero, zero_add, Finset.sum_filter]
  refine (sum_idx2 (n0 := 16384) (n1 := 256) _).trans ?_
  rw [Maths.coe_sum]
  refine Finset.sum_congr rfl fun n _ => ?_
  have hi : (idx (ix2 n (0 : Fin 1))).toInt = (k.val : Int) ↔ key n = k.val := by
    have := hlt n
    rw [hk, StableHlo.Predicate.toInt_ofNat_small _ (by omega)]
    omega
  simp only [row_lands, hi]
  by_cases q : key n = k.val
  · simp [q, hu]
  · simp [q]

/-- Ones scattered by keys: how many have the key. -/
theorem scatter_ones (x : FVec Ideal S16384 .f32) (hx : ∀ i, x i = ((0 : ℝ) : EReal)) (idx : IVec S16384x1 32) (key : Fin 16384 → ℕ)
    (hk : ∀ n, idx (ix2 n (0 : Fin 1)) = BitVec.ofNat 32 (key n)) (hlt : ∀ n, key n < 16384) (u : FVec Ideal S16384 .f32)
    (hu : ∀ n, u n = ((1 : ℝ) : EReal)) (k : Fin 16384) :
    Host.scatterAdd scatter_S16384_S16384x1_S16384_n_0_0_1 x idx u (ix1 k) = ((∑ n, if key n = k.val then 1 else 0 : ℝ) : EReal) := by
  show x (ix1 k) + ∑ j ∈ Finset.univ.filter (fun j => scatter_S16384_S16384x1_S16384_n_0_0_1.resultIdx? j idx = some (ix1 k)), u j = _
  rw [hx, EReal.coe_zero, zero_add, Finset.sum_filter]
  refine (sum_idx1 (n0 := 16384) _).trans ?_
  rw [Maths.coe_sum]
  refine Finset.sum_congr rfl fun n _ => ?_
  have hi : scatter_S16384_S16384x1_S16384_n_0_0_1.resultIdx? (ix1 n) idx = some (ix1 k) ↔ key n = k.val := by
    have := hlt n
    have hi : (idx (ix2 n (0 : Fin 1))).toInt = (k.val : Int) ↔ key n = k.val := by
      rw [hk, StableHlo.Predicate.toInt_ofNat_small _ (by omega)]
      omega
    exact (Routing.scatter_lands_signed (N := 16384) _ rfl rfl rfl idx n k).trans hi
  by_cases q : key n = k.val
  · rw [if_pos (hi.mpr q), if_pos q, hu]
  · rw [if_neg (mt hi.mp q), if_neg q, EReal.coe_zero]

/-- Rows gathered by their keys. -/
theorem gather_rows (x : FVec Ideal S16384x256 .f32) (idx : IVec S16384x1 32) (n : Fin 16384) (e : Fin 256) (k : Fin 16384)
    (hk : idx (ix2 n (0 : Fin 1)) = BitVec.ofNat 32 k.val) :
    Host.gather gather_S16384x256_S16384x1_S16384x256_1_0_n_n_0_1_1256 x idx (ix2 n e) = x (ix2 k e) :=
  Routing.gather_row (nb := 16384) (B := 256) (n := 16384) _ rfl rfl rfl rfl rfl x idx n e k hk (by norm_num)

/-- The first of each row is marked, the others as given. -/
theorem concat_at (y : IVec S8x1 1) (z : IVec S8x2047 1) (b : Fin 8) (t : Fin 2048) :
    concatenate S8x2048 1 [⟨S8x1, y⟩, ⟨S8x2047, z⟩] concatenates_S8x1_S8x2047_S8x2048_d1 (ix2 b t)
      = if h : t.val < 1 then y (ix2 b ⟨t.val, h⟩) else z (ix2 b ⟨t.val - 1, by omega⟩) := by
  pointwise

end Cert.ReferenceIdeal.BlockOps
-- ==== Proof.ReferenceIdeal.Keys.lean ====
module

public import proofs.«01_k».proof.Proof.Moments
public import proofs.«01_k».proof.Proof.Segments

/-! # Segments by their numbers -/

@[expose] public section
namespace Cert.Segments
open Cert.Moments

/-- The marks of a sequence, by place. -/
def marks (o : Fin 8 → Fin 2048 → Fin 2) (b : Fin 8) (p : ℕ) : ℕ := if h : p < 2048 then (o b ⟨p, h⟩).val else 0

theorem marks_at (o : Fin 8 → Fin 2048 → Fin 2) (b : Fin 8) (t : Fin 2048) : marks o b t.val = (o b t).val := by
  unfold marks
  rw [dif_pos t.isLt]

theorem marks_le (o : Fin 8 → Fin 2048 → Fin 2) (b : Fin 8) (p : ℕ) : marks o b p ≤ 1 := by
  unfold marks
  split
  · have := (o b ⟨p, by assumption⟩).isLt
    omega
  · omega

/-- The number of the segment a place lies in, from zero. -/
def ident (m : ℕ → ℕ) (t : ℕ) : ℕ := cum m t - m 0

theorem cum_zero (m : ℕ → ℕ) : cum m 0 = m 0 := by simp [cum]

theorem first_le (m : ℕ → ℕ) (t : ℕ) : m 0 ≤ cum m t := by
  have := cum_mono m (Nat.zero_le t)
  rwa [cum_zero] at this

theorem ident_le (m : ℕ → ℕ) (hm : ∀ p, m p ≤ 1) (t : ℕ) : ident m t ≤ t := by
  induction t with
  | zero => simp [ident, cum_zero]
  | succ t ih =>
    have := hm (t + 1)
    unfold ident at *
    rw [cum_succ]
    omega

theorem ident_eq_iff (m : ℕ → ℕ) (s t : ℕ) : ident m s = ident m t ↔ cum m s = cum m t := by
  have := first_le m s
  have := first_le m t
  unfold ident
  omega

/-- The number of the segment a token lies in, no two sequences sharing one. -/
def key (m : Fin 8 → ℕ → ℕ) (n : Fin 16384) : ℕ := ident (m ⟨n.val / 2048, by omega⟩) (n.val % 2048) + 2048 * (n.val / 2048)

theorem key_flat (m : Fin 8 → ℕ → ℕ) (b : Fin 8) (t : Fin 2048) : key m (flat b t) = ident (m b) t.val + 2048 * b.val := by
  have h1 : (b.val * 2048 + t.val) / 2048 = b.val := by omega
  have h2 : (b.val * 2048 + t.val) % 2048 = t.val := by omega
  simp only [key, flat, h1, h2, Fin.eta]

theorem key_lt (m : Fin 8 → ℕ → ℕ) (hm : ∀ b p, m b p ≤ 1) (n : Fin 16384) : key m n < 16384 := by
  have := ident_le (m ⟨n.val / 2048, by omega⟩) (hm _) (n.val % 2048)
  unfold key
  omega

theorem key_eq_iff (m : Fin 8 → ℕ → ℕ) (hm : ∀ b p, m b p ≤ 1) (b b' : Fin 8) (t t' : Fin 2048) :
    key m (flat b' t') = key m (flat b t) ↔ b' = b ∧ cum (m b) t'.val = cum (m b) t.val := by
  have h1 := ident_le (m b) (hm b) t.val
  have h2 := ident_le (m b') (hm b') t'.val
  rw [key_flat, key_flat]
  constructor
  · intro h
    obtain rfl : b' = b := Fin.ext (by omega)
    exact ⟨rfl, (ident_eq_iff _ _ _).mp (by omega)⟩
  · rintro ⟨rfl, h⟩
    rw [(ident_eq_iff _ _ _).mpr h]

/-- At the first place of a segment, the whole segment lies from there on. -/
theorem sum_key (m : Fin 8 → ℕ → ℕ) (hm : ∀ b p, m b p ≤ 1) (F : Fin 16384 → ℝ) (f : ℕ → ℝ) (b : Fin 8) (hf : ∀ s : Fin 2048, F (flat b s) = f s.val)
    (t : Fin 2048) (h : m b t.val = 1 ∨ t.val = 0) :
    (∑ n, if key m n = key m (flat b t) then F n else 0) = tail (m b) f t.val := by
  rw [← sum_tokens, Finset.sum_eq_single b]
  · unfold tail
    rw [Finset.sum_range]
    refine Finset.sum_congr rfl fun s _ => ?_
    have hs : cum (m b) s.val = cum (m b) t.val → t.val ≤ s.val := by
      intro e
      by_contra q
      rcases h with h | h
      · obtain ⟨u, hu⟩ : ∃ u, t.val = u + 1 := ⟨t.val - 1, by omega⟩
        have := cum_mono (m b) (show s.val ≤ u by omega)
        rw [hu, cum_succ, ← hu] at e
        omega
      · omega
    by_cases q : cum (m b) s.val = cum (m b) t.val
    · rw [if_pos ((key_eq_iff m hm _ _ _ _).mpr ⟨rfl, q⟩), if_pos ⟨hs q, q⟩, hf]
    · rw [if_neg (fun w => q ((key_eq_iff m hm _ _ _ _).mp w).2), if_neg (fun w => q w.2)]
  · intro b' _ hb
    exact Finset.sum_eq_zero fun s _ => if_neg fun w => hb ((key_eq_iff m hm _ _ _ _).mp w).1
  · intro w
    exact absurd (Finset.mem_univ b) w

/-- A segment a token lies in is not empty. -/
theorem one_le_count (K : Fin 16384 → ℕ) (n : Fin 16384) : (1 : ℝ) ≤ ∑ n', if K n' = K n then (1 : ℝ) else 0 :=
  le_trans (le_of_eq (if_pos rfl).symm) (Finset.single_le_sum (f := fun n' => if K n' = K n then (1 : ℝ) else 0) (s := Finset.univ)
    (fun i _ => by split <;> norm_num) (Finset.mem_univ n))

end Cert.Segments
-- ==== Proof.ReferenceIdeal.Blocks.lean ====
module

public import proofs.«01_k».proof.Proof.ReferenceIdeal.BlockOps
public import proofs.«01_k».proof.Proof.ReferenceIdeal.Keys

/-! # The reference's result, in real numbers -/

@[expose] public section
set_option maxRecDepth 16384
open Idealize Idealize.SL Idealize.ShloMosaic
namespace Cert.ReferenceIdeal.Value
open Cert.ReferenceIdeal Cert.ReferenceIdeal.Gen Cert.ReferenceIdeal.Read Cert.Maths Cert.Moments Cert.Segments

theorem sum_four (a b c d : EReal) : ((a + b) + c) + d = b + d + c + a := by
  rw [add_right_comm (a + b) c d, add_comm a b, add_right_comm b a d, add_right_comm]

theorem sub_ofNat (c d : ℕ) (h : d ≤ c) : IntOp.subi (BitVec.ofNat 32 c) (BitVec.ofNat 32 d) = BitVec.ofNat 32 (c - d) := by
  obtain ⟨e, rfl⟩ := Nat.exists_eq_add_of_le h
  rw [Nat.add_sub_cancel_left, Nat.add_comm d e, BitVec.ofNat_add]
  show (BitVec.ofNat 32 e + BitVec.ofNat 32 d) - BitVec.ofNat 32 d = _
  rw [add_sub_cancel_right]

section
variable {P : Params} {x : Fin 8 → Fin 2048 → Fin 512 → ℝ} {o : Fin 8 → Fin 2048 → Fin 2} {offs : Fin 16 → Fin 32 → ℝ}
  {a0 : FVec Ideal S8x2048x512 .f32} {a1 : IVec S8x2048 32}
  {a3 : FVec Ideal S32x32 .f32} {a4 : FVec Ideal S32 .f32} {a5 : FVec Ideal S32x32 .f32}
  {a6 : FVec Ideal S32 .f32} {a7 : FVec Ideal S32x32 .f32} {a8 : FVec Ideal S32 .f32}
  {a9 : FVec Ideal S32x32 .f32} {a10 : FVec Ideal S32 .f32} {a11 : FVec Ideal S32x128 .f32}
  {a12 : FVec Ideal S128 .f32} {a13 : FVec Ideal S128x32 .f32} {a14 : FVec Ideal S32 .f32}
  {a15 : FVec Ideal S512x256 .f32} {a16 : FVec Ideal S256 .f32}

/-- The normalised embeddings of a sequence, by place. -/
noncomputable def places (P : Params) (x : Fin 8 → Fin 2048 → Fin 512 → ℝ) (offs : Fin 16 → Fin 32 → ℝ) (ε : ℝ) (b : Fin 8) (p : ℕ) (e : Fin 256) : ℝ :=
  if h : p < 2048 then normal (embs P x offs) ε (flat b ⟨p, h⟩) e else 0

theorem places_at (ε : ℝ) (b : Fin 8) (t : Fin 2048) (e : Fin 256) : places P x offs ε b t.val e = normal (embs P x offs) ε (flat b t) e := by
  unfold places
  rw [dif_pos t.isLt]

section
variable (ho : ∀ b t, a1 (ix2 b t) = BitVec.ofNat 32 (o b t).val)
include ho

theorem v89_at (b : Fin 8) (t : Fin 2048) : val_main_v89 (F := Ideal) a1 (ix2 b t) = BitVec.ofNat 32 (cum (marks o b) t.val) :=
  BlockOps.cumsum_at a1 (marks o) (fun b t => by rw [marks_at]; exact ho b t) _ rfl b t

theorem v94_at (i : S8x2048.Idx) : val_main_v94 (F := Ideal) a1 i = BitVec.ofNat 32 (marks o (i 0) 0) := by
  rw [val_main_v94_apply, val_main_v93_apply, val_main_v92_apply, val_main_v90_apply, val_main_v91_apply]
  refine (congrArg (fun q => (IntOp.cmpi .eq (val_main_v89 (F := Ideal) a1 q) 1#32).setWidth 32)
    (show _ = ix2 (i 0 : Fin 8) (0 : Fin 2048) by funext k; fin_cases k <;> rfl)).trans ?_
  refine (congrArg (fun q => (IntOp.cmpi .eq q 1#32).setWidth 32) (v89_at ho (i 0) 0)).trans ?_
  show (IntOp.cmpi .eq (BitVec.ofNat 32 (cum (marks o (i 0)) 0)) 1#32).setWidth 32 = _
  rw [cum_zero]
  have := marks_le o (i 0) 0
  interval_cases marks o (i 0) 0 <;> decide

theorem v95_at (b : Fin 8) (t : Fin 2048) : val_main_v95 (F := Ideal) a1 (ix2 b t) = BitVec.ofNat 32 (ident (marks o b) t.val) := by
  rw [val_main_v95_apply, v89_at ho, v94_at ho]
  exact sub_ofNat _ _ (first_le _ _)

theorem v101_at (i : S8x2048.Idx) : val_main_v101 (F := Ideal) a1 i = BitVec.ofNat 32 (ident (marks o (i 0)) (i 1).val + 2048 * (i 0).val) := by
  rw [val_main_v101_apply, BitVec.ofNat_add, BitVec.ofNat_mul]
  refine congrArg₂ IntOp.addi ((congrArg _ (show i = ix2 (i 0 : Fin 8) (i 1 : Fin 2048) by funext k; fin_cases k <;> rfl)).trans (v95_at ho (i 0) (i 1))) ?_
  rw [val_main_v100_apply, val_main_v99_apply, val_main_v98_apply, val_main_v97_apply]
  rfl

theorem v102_at (i : S16384.Idx) : val_main_v102 (F := Ideal) a1 i = BitVec.ofNat 32 (key (marks o) (i 0)) := by
  rw [val_main_v102_apply, v101_at ho]
  rfl

theorem v125_at (i : S16384.Idx) : val_main_v125 (F := Ideal) a1 i = BitVec.ofNat 32 (key (marks o) (i 0)) := by
  rw [val_main_v125_apply, val_main_v122_apply, v102_at ho]
  refine Routing.wrap_of_lt _ _ ?_
  have := key_lt (marks o) (marks_le o) (i 0)
  rw [BitVec.toNat_ofNat]
  omega

theorem v110_at (k : Fin 16384) : val_main_v110 (F := Ideal) a1 (ix1 k) = ((∑ n, if key (marks o) n = k.val then 1 else 0 : ℝ) : EReal) :=
  BlockOps.scatter_ones _ (fun i => by rw [val_main_v108_apply]; exact Consts.zero) _ (key (marks o))
    (fun n => by rw [val_main_v109_apply, v102_at ho]; rfl) (key_lt _ (marks_le o)) _
    (fun i => by rw [val_main_v107_apply]; exact Consts.one) k

/-- Whether a place is the first of its segment. -/
theorem v119_at (b : Fin 8) (t : Fin 2048) :
    val_main_v119 (F := Ideal) a1 (ix2 b t) = BitVec.ofBool (decide (marks o b t.val = 1 ∨ t.val = 0)) := by
  unfold val_main_v119
  rw [BlockOps.concat_at]
  split
  · next h =>
    rw [decide_eq_true (Or.inr (by omega)), val_main_v115_apply]
    rfl
  · next h =>
    rw [val_main_v118_apply, val_main_v116_apply, val_main_v117_apply]
    obtain ⟨u, hu⟩ : ∃ u, t.val = u + 1 := ⟨t.val - 1, by omega⟩
    have hlt := t.isLt
    refine (congrArg₂ (IntOp.cmpi .ne)
      ((congrArg (val_main_v95 (F := Ideal) a1) (show _ = ix2 b t from funext fun k => Fin.ext (by
        fin_cases k
        · rfl
        · show 1 + (t.val - 1) = t.val; omega))).trans (v95_at ho b t))
      ((congrArg (val_main_v95 (F := Ideal) a1) (show _ = ix2 b (⟨u, by omega⟩ : Fin 2048) from funext fun k => Fin.ext (by
        fin_cases k
        · rfl
        · show t.val - 1 = u; omega))).trans (v95_at ho b ⟨u, by omega⟩))).trans ?_
    show BitVec.ofBool (BitVec.ofNat 32 (ident (marks o b) t.val) != BitVec.ofNat 32 (ident (marks o b) u)) = _
    have h1 := ident_le (marks o b) (marks_le o b) t.val
    have h2 := ident_le (marks o b) (marks_le o b) u
    have h3 : ident (marks o b) t.val = ident (marks o b) u + marks o b t.val := by
      have := first_le (marks o b) u
      unfold ident
      rw [hu, cum_succ]
      omega
    have h4 := marks_le o b t.val
    refine congrArg BitVec.ofBool ?_
    rw [Bool.eq_iff_iff]
    simp only [bne_iff_ne, ne_eq, decide_eq_true_eq]
    constructor
    · intro w
      left
      by_contra q
      exact w (by rw [h3, show marks o b t.val = 0 by omega, Nat.add_zero])
    · intro w e
      have := congrArg BitVec.toNat e
      rw [BitVec.toNat_ofNat, BitVec.toNat_ofNat] at this
      omega

end

variable (H : Holds P x o a0 a1 a3 a4 a5 a6 a7 a8 a9 a10 a11 a12 a13 a14 a15 a16) (hp : IsOffs offs)
  {ε : ℝ} (hε : 0 < ε) (he : Ideal.ofBits .f32 0x322BCC77#32 = (ε : EReal))
include H hp hε he

theorem v103_at (n : Fin 16384) (e : Fin 256) : val_main_v103 (F := Ideal) a0 a3 a4 a5 a6 a7 a8 a9 a10 a11 a12 a13 a14 a15 a16 (ix2 n e)
    = (normal (embs P x offs) ε n e : EReal) := by
  rw [val_main_v103_apply, v88_at H hp hε he, EReal.coe_eq_coe_iff]
  refine congrArg₂ (normal (embs P x offs) ε) (Fin.ext ?_) (Fin.ext ?_)
  · show (n.val * 256 + e.val) / 524288 * 2048 + (n.val * 256 + e.val) / 256 % 2048 = n.val
    omega
  · show (n.val * 256 + e.val) % 256 = e.val
    omega

theorem v106_at (k : Fin 16384) (e : Fin 256) : val_main_v106 (F := Ideal) a0 a1 a3 a4 a5 a6 a7 a8 a9 a10 a11 a12 a13 a14 a15 a16 (ix2 k e)
    = ((∑ n, if key (marks o) n = k.val then normal (embs P x offs) ε n e else 0 : ℝ) : EReal) :=
  BlockOps.scatter_rows _ (fun i => by rw [val_main_v104_apply]; exact Consts.zero) _ (key (marks o))
    (fun n => by rw [val_main_v105_apply, v102_at H.o]; rfl) (key_lt _ (marks_le o)) _ _ (v103_at H hp hε he) k e

/-- A token's segment number, as a row. -/
def row (o : Fin 8 → Fin 2048 → Fin 2) (n : Fin 16384) : Fin 16384 := ⟨key (marks o) n, key_lt _ (marks_le o) n⟩

theorem v114_at (n : Fin 16384) (e : Fin 256) : val_main_v114 (F := Ideal) a0 a1 a3 a4 a5 a6 a7 a8 a9 a10 a11 a12 a13 a14 a15 a16 (ix2 (row o n) e)
    = (((∑ n', if key (marks o) n' = key (marks o) n then normal (embs P x offs) ε n' e else 0)
        / (∑ n', if key (marks o) n' = key (marks o) n then 1 else 0) : ℝ) : EReal) := by
  have h1 := one_le_count (key (marks o)) n
  rw [val_main_v114_apply, v106_at H hp hε he, val_main_v113_apply, val_main_v112_apply, val_main_v111_apply]
  refine (congrArg (Ideal.div _) ((congrArg₂ max (show _ = ((1 : ℝ) : EReal) by rw [val_main_call5_v1_apply]; exact Consts.one)
    ((congrArg (val_main_v110 (F := Ideal) a1) (show _ = ix1 (row o n) by funext k; fin_cases k; rfl)).trans (v110_at H.o (row o n)))).trans
      ((coe_max _ _).symm.trans (congrArg _ (max_eq_right h1))))).trans ?_
  exact div_coe_coe _ (by have : (0 : ℝ) < 1 := one_pos; exact (lt_of_lt_of_le this h1).ne')

theorem v128_at (b : Fin 8) (t : Fin 2048) (e : Fin 256) : val_main_v128 (F := Ideal) a0 a1 a3 a4 a5 a6 a7 a8 a9 a10 a11 a12 a13 a14 a15 a16 (ix3 b t e)
    = (((∑ n', if key (marks o) n' = key (marks o) (flat b t) then normal (embs P x offs) ε n' e else 0)
        / (∑ n', if key (marks o) n' = key (marks o) (flat b t) then 1 else 0) : ℝ) : EReal) := by
  rw [val_main_v128_apply]
  refine (congrArg (val_main_v127 (F := Ideal) a0 a1 a3 a4 a5 a6 a7 a8 a9 a10 a11 a12 a13 a14 a15 a16)
    (show _ = ix2 (flat b t) e from funext fun k => Fin.ext (by
      fin_cases k
      · show ((b.val * 2048 + t.val) * 256 + e.val) / 256 = b.val * 2048 + t.val; omega
      · show ((b.val * 2048 + t.val) * 256 + e.val) % 256 = e.val; omega))).trans ?_
  refine (BlockOps.gather_rows _ _ (flat b t) e (row o (flat b t)) ?_).trans (v114_at H hp hε he (flat b t) e)
  rw [val_main_v126_apply, v125_at H.o]
  rfl

/-- The means, at the first place of each segment. -/
theorem v129_at (b : Fin 8) (t : Fin 2048) (e : Fin 256) : val_main_v129 (F := Ideal) a0 a1 a3 a4 a5 a6 a7 a8 a9 a10 a11 a12 a13 a14 a15 a16 (ix3 b t e)
    = ((if marks o b t.val = 1 ∨ t.val = 0 then tail (marks o b) (fun s => places P x offs ε b s e) t.val / tail (marks o b) (fun _ => 1) t.val else 0 : ℝ) : EReal) := by
  rw [val_main_v129_apply, v128_at H hp hε he, val_main_call6_v1_apply, val_main_v120_apply]
  refine (congrArg (fun q => Scalar.select q _ _) ((congrArg (val_main_v119 (F := Ideal) a1)
    (show _ = ix2 b t by funext k; fin_cases k <;> rfl)).trans (v119_at H.o b t))).trans ?_
  by_cases q : marks o b t.val = 1 ∨ t.val = 0
  · rw [decide_eq_true q, if_pos q,
      ← sum_key (marks o) (marks_le o) (fun n => normal (embs P x offs) ε n e) _ b (fun s => (places_at ε b s e).symm) t q,
      ← sum_key (marks o) (marks_le o) (fun _ => 1) _ b (fun _ => rfl) t q]
    rfl
  · rw [decide_eq_false q, if_neg q, val_main_call6_v2_apply]
    exact Consts.zero

/-- The reference's result. -/
theorem result_at (a2 : FVec Ideal S8x2048x256 .f32) (b : Fin 8) (t : Fin 2048) (e : Fin 256) :
    val_main_v158 (F := Ideal) a0 a1 a2 a3 a4 a5 a6 a7 a8 a9 a10 a11 a12 a13 a14 a15 a16 (ix3 b t e)
      = a2 (ix3 b t e) + val_main_v155 (F := Ideal) (ix2 t e) + (places P x offs ε b t.val e : EReal)
        + ((if marks o b t.val = 1 ∨ t.val = 0 then tail (marks o b) (fun s => places P x offs ε b s e) t.val / tail (marks o b) (fun _ => 1) t.val else 0 : ℝ) : EReal) := by
  rw [val_main_v158_apply, val_main_v131_apply, val_main_v130_apply, v129_at H hp hε he, v88_at H hp hε he, val_main_v157_apply, val_main_v156_apply, places_at]
  refine (congrArg (fun q => ((_ + _) + _) + val_main_v155 (F := Ideal) q) (show _ = ix2 t e by funext k; fin_cases k <;> rfl)).trans ?_
  exact sum_four _ _ _ _

end

end Cert.ReferenceIdeal.Value
-- ==== Proof.KernelIdeal.Result.lean ====
module

public import proofs.«01_k».proof.Proof.KernelIdeal.Run
public import proofs.«01_k».proof.Proof.KernelIdeal.StageAEnter
public import proofs.«01_k».proof.Proof.KernelIdeal.HostB
public import proofs.«01_k».proof.Proof.KernelIdeal.StageBArray
public import proofs.«01_k».proof.Proof.ReferenceIdeal.Blocks

/-! # The kernel's result is the reference's -/

@[expose] public section
set_option maxRecDepth 16384
open Idealize Idealize.SL Idealize.ShloMosaic
namespace Cert.KernelIdeal.Result
open Cert.KernelIdeal Cert.KernelIdeal.Gen Cert.KernelIdeal.Run Cert.Maths Cert.Moments Cert.Segments Idealize.ShloMosaic.TcCoe
open Cert.ReferenceIdeal.Value (embs places places_at)

/-- The rows of a token. -/
def xrows (x : Fin 8 → Fin 2048 → Fin 512 → ℝ) (n : Fin 16384) (f : Fin 16) (k : Fin 32) : ℝ :=
  x ⟨n.val / 2048, by omega⟩ ⟨n.val % 2048, by omega⟩ ⟨k.val * 16 + f.val, by omega⟩

variable {m : (ℓ : Loc nD τ sig) → Buf (Elt Ideal) ℓ} {c : Dev nD}
variable {P : Params} {x : Fin 8 → Fin 2048 → Fin 512 → ℝ} {o : Fin 8 → Fin 2048 → Fin 2} {offs : Fin 16 → Fin 32 → ℝ}

theorem enteredA (H : HostA.Given (V0 m c) P x o) (hp : HostA.IsOffs offs) :
    StageA.Entered (fun c b => V1 m c b) P offs (xrows x) c := HostA.enters H hp

theorem emb_end (H : HostA.Given (V0 m c) P x o) (hp : HostA.IsOffs offs) (n : Fin 16384) (e : Fin 256) :
    (V2 m (outs m) c main_call0_v74_0 : FVec Ideal S16384x256 .bf16) (ix2 n e) = embs P x offs n e :=
  congrFun ((V2_at0 m c).trans (StageA.arr_emb (enteredA H hp))) (ix2 n e)

theorem sum_end (H : HostA.Given (V0 m c) P x o) (hp : HostA.IsOffs offs) (i : S1x1.Idx) :
    (V2 m (outs m) c main_call0_v74_1 : FVec Ideal S1x1 .f32) i = ∑ n, ∑ e, embs P x offs n e :=
  congrFun ((V2_at1 m c).trans (StageA.arr_sum (enteredA H hp))) i

theorem sq_end (H : HostA.Given (V0 m c) P x o) (hp : HostA.IsOffs offs) (i : S1x1.Idx) :
    (V2 m (outs m) c main_call0_v74_2 : FVec Ideal S1x1 .f32) i = ∑ n, ∑ e, embs P x offs n e * embs P x offs n e :=
  congrFun ((V2_at2 m c).trans (StageA.arr_sq (enteredA H hp))) i

/-- The mean the host computes. -/
theorem mean_end {s : FVec Ideal S1x1 .f32} {f : Fin 16384 → Fin 256 → EReal} (hs : ∀ i, s i = ∑ n, ∑ e, f n e) (a b : Fin 1) :
    shapeCast S1x1 (HostB.mean s) shapeCasts_S_S1x1 (ix2 a b) = meanE f := by
  rw [HostB.mean_at, hs, Consts.count]
  rfl

/-- The factor the host computes. -/
theorem scale_end {s q : FVec Ideal S1x1 .f32} {f : Fin 16384 → Fin 256 → EReal} {ε : ℝ} (hs : ∀ i, s i = ∑ n, ∑ e, f n e)
    (hq : ∀ i, q i = ∑ n, ∑ e, f n e * f n e) (he : Ideal.ofBits .f32 0x322BCC77#32 = (ε : EReal)) (a b : Fin 1) :
    shapeCast S1x1 (HostB.scaleOf s q) shapeCasts_S_S1x1 (ix2 a b) = factorE f ε := by
  rw [HostB.scaleOf_at, hs, hq, Consts.count, he, Consts.one]
  rfl

theorem arg_kept (b : Ref sig .tc) (h0 : b ∉ hostOps0_W) (h1 : b ∉ ([main_call0_v74_0, main_call0_v74_1, main_call0_v74_2] : List (Ref sig .tc))) :
    V2 m (outs m) c b = V0 m c b := (V2_of m (outs m) c b h1).trans (V1_of m c b h0)

theorem toInt_mark (z : Fin 2) : (((BitVec.ofNat 32 z.val).toInt : ℝ) : EReal) = (((z.val : ℕ) : ℝ) : EReal) := by
  fin_cases z <;> simp

theorem enteredB (H : HostA.Given (V0 m c) P x o) (hp : HostA.IsOffs offs) {ε : ℝ} (hε : 0 < ε) (he : Ideal.ofBits .f32 0x322BCC77#32 = (ε : EReal)) :
    StageB.Entered (fun c b => V3 m (outs m) c b) (marks o) (places P x offs ε) c
      (HostB.bySeq (V2 m (outs m) c main_call0_v74_0)) (HostB.column (V2 m (outs m) c main_arg1))
      (shapeCast S1x1 (HostB.mean (V2 m (outs m) c main_call0_v74_1)) shapeCasts_S_S1x1)
      (shapeCast S1x1 (HostB.scaleOf (V2 m (outs m) c main_call0_v74_1) (V2 m (outs m) c main_call0_v74_2)) shapeCasts_S_S1x1) where
  emb := HostB.emb_eq _
  mark := HostB.o_eq _
  mid := HostB.mu_eq _
  scale := HostB.inv_eq _
  le := marks_le o
  marks b p := by
    rw [HostB.column_at, arg_kept main_arg1 (by decide) (by decide), H.o, marks_at, toInt_mark]
  normal b p e := by
    rw [HostB.bySeq_at, emb_end H hp, mean_end (sum_end H hp), scale_end (sum_end H hp) (sq_end H hp) he, places_at]
    exact (normal_both (embs P x offs) hε _ e).1

/-- What the kernel leaves is what the reference computes. -/
theorem result_eq (H : HostA.Given (V0 m c) P x o) :
    (V4 m (outs m) c main_v0 : FVec Ideal S8x2048x256 .f32)
      = Cert.ReferenceIdeal.Read.val_main_v158 (F := Ideal) (V0 m c main_arg0) (V0 m c main_arg1) (V0 m c main_arg2) (V0 m c main_arg3) (V0 m c main_arg4)
        (V0 m c main_arg5) (V0 m c main_arg6) (V0 m c main_arg7) (V0 m c main_arg8) (V0 m c main_arg9) (V0 m c main_arg10) (V0 m c main_arg11)
        (V0 m c main_arg12) (V0 m c main_arg13) (V0 m c main_arg14) (V0 m c main_arg15) (V0 m c main_arg16) := by
  obtain ⟨offs, hp⟩ := HostA.exists_offs
  obtain ⟨ε, hε, he⟩ := Consts.eps
  refine ((V4_at m c).trans (StageB.arr_res (enteredB H hp hε he))).trans ?_
  funext j
  have hr : (V3 m (outs m) c main_arg2 : FVec Ideal S8x2048x256 .f32) = V0 m c main_arg2 :=
    (V3_of m (outs m) c main_arg2 (by decide)).trans (arg_kept main_arg2 (by decide) (by decide))
  have hq : (V3 m (outs m) c main_call0_v109 : FVec Ideal ⟨2, ![2048, 256]⟩ .f32) = Cert.ReferenceIdeal.Read.val_main_v155 (F := Ideal) := HostB.pe_eq _
  refine (congrArg₂ (fun r pe => StageB.resArr (marks o) (places P x offs ε) r pe j) hr hq).trans ?_
  exact (Cert.ReferenceIdeal.Value.at3 (f := fun b t e => StageB.resArr (marks o) (places P x offs ε) (V0 m c main_arg2)
      (Cert.ReferenceIdeal.Read.val_main_v155 (F := Ideal)) (ix3 b t e)) (fun _ _ _ => rfl) j).trans
    (Cert.ReferenceIdeal.Value.at3 (f := fun b t e => StageB.resArr (marks o) (places P x offs ε) (V0 m c main_arg2)
      (Cert.ReferenceIdeal.Read.val_main_v155 (F := Ideal)) (ix3 b t e))
      (fun b t e => Cert.ReferenceIdeal.Value.result_at H hp hε he (V0 m c main_arg2) b t e) j).symm

end Cert.KernelIdeal.Result
-- ==== Proof.Ranges.lean ====
module

public import proofs.«01_k».proof.Pre_ranges
public import proofs.«01_k».proof.Proof.Inputs
public import Idealize.ShloMosaic.Lib.ReduceAll
public import Idealize.ShloMosaic.Lib.Affine

/-! # What the precondition says of the arrays -/

@[expose] public section

set_option maxRecDepth 16384
open Idealize Idealize.SL Idealize.ShloMosaic

namespace Cert.Pre_ranges

/-- The shape relations the precondition's operations take. -/
theorem facts : Facts where
  bcast_S_S8x2048 := by decide
  reducesTo_S8x2048_S_d0_1 := by decide
  h_S_ := by decide
  bcast_S_S8x2048x512 := by decide
  reducesTo_S8x2048x512_S_d0_1_2 := by decide
  bcast_S_S32x32 := by decide
  reducesTo_S32x32_S_d0_1 := by decide
  bcast_S_S32 := by decide
  reducesTo_S32_S_d0 := by decide
  bcast_S_S32x128 := by decide
  reducesTo_S32x128_S_d0_1 := by decide

instance : Subsingleton S_.Idx := ⟨fun _ _ => funext fun d => d.elim0⟩

/-- An extended real whose absolute value is below `⊤` is a real. -/
theorem real_of_lt (x : EReal) (h : Ideal.cmp .olt (max x (-x)) (Ideal.ofBits .f32 0x7F800000#32) = 1#1) : x = (x.toReal : EReal) := by
  have top : Ideal.ofBits .f32 0x7F800000#32 = ⊤ := by simp [Ideal.ofBits, Ideal.ieee]
  rw [top] at h
  induction x with
  | bot => simp [Ideal.cmp] at h
  | coe r => rfl
  | top => simp [Ideal.cmp] at h

/-- Every element of an array is a real where `all (|a| < inf)` is 1. -/
theorem real_of_all {s : Shape} {axes : List (Fin s.rank)} (hb : S_.BroadcastsInDim s (![] : Fin 0 → Fin s.rank)) (hr : s.ReducesTo axes S_) (h0 : 0 < S_.numel)
    (a : FVec Ideal s .f32) (j : S_.Idx)
    (e : Host.reduce IntOp.andi (cmpf .olt (Host.absf a) (broadcastInDim s ![] hb (constant S_ .f32 0x7F800000#32))) (constantI S_ 1 1#1) hr h0 j = 1#1)
    (i : s.Idx) : a i = ((a i).toReal : EReal) :=
  real_of_lt _ (Host.reduce_andi_all _ _ _ _ j e i)

/-- A word that is 0 or 1 as the word of an element of `Fin 2`. -/
theorem mark_of (w : BitVec 32) (h : IntOp.ori (IntOp.cmpi .eq w 0#32) (IntOp.cmpi .eq w 1#32) = 1#1) :
    w = BitVec.ofNat 32 ((if w = 1#32 then 1 else 0 : Fin 2)).val := by
  by_cases h1 : w = 1#32
  · simp [h1]
  · by_cases h0 : w = 0#32
    · simp [h0]
    · have e0 : (w == 0#32) = false := by simpa using h0
      have e1 : (w == 1#32) = false := by simpa using h1
      exfalso; revert h; simp [IntOp.cmpi, IntOp.ori, e0, e1]

/-- A bounded array that passes is one of reals; a mark is 0 or 1. -/
theorem holds [Facts]
    {a0 : FVec Ideal S8x2048x512 .f32} {a1 : IVec S8x2048 32} {a2 : FVec Ideal ⟨3, ![8, 2048, 256]⟩ .f32}
    {a3 : FVec Ideal S32x32 .f32} {a4 : FVec Ideal S32 .f32} {a5 : FVec Ideal S32x32 .f32}
    {a6 : FVec Ideal S32 .f32} {a7 : FVec Ideal S32x32 .f32} {a8 : FVec Ideal S32 .f32}
    {a9 : FVec Ideal S32x32 .f32} {a10 : FVec Ideal S32 .f32} {a11 : FVec Ideal S32x128 .f32}
    {a12 : FVec Ideal S128 .f32} {a13 : FVec Ideal S128x32 .f32} {a14 : FVec Ideal S32 .f32}
    {a15 : FVec Ideal S512x256 .f32} {a16 : FVec Ideal S256 .f32}
    (h : fn (F := Ideal) a0 a1 a2 a3 a4 a5 a6 a7 a8 a9 a10 a11 a12 a13 a14 a15 a16 = fun _ => 1#1) :
    ∃ P x o, Maths.Holds P x o a0 a1 a3 a4 a5 a6 a7 a8 a9 a10 a11 a12 a13 a14 a15 a16 := by
  have e := congrFun h (Shape.Idx.first Facts.h_S_)
  obtain ⟨e11, h11⟩ := IntOp.andi_eq_one.1 e
  obtain ⟨e9, h9⟩ := IntOp.andi_eq_one.1 e11
  obtain ⟨e8, h8⟩ := IntOp.andi_eq_one.1 e9
  obtain ⟨e7, h7⟩ := IntOp.andi_eq_one.1 e8
  obtain ⟨e6, h6⟩ := IntOp.andi_eq_one.1 e7
  obtain ⟨e5, h5⟩ := IntOp.andi_eq_one.1 e6
  obtain ⟨e4, h4⟩ := IntOp.andi_eq_one.1 e5
  obtain ⟨e3, h3⟩ := IntOp.andi_eq_one.1 e4
  obtain ⟨h1, h0⟩ := IntOp.andi_eq_one.1 e3
  clear h e e3 e4 e5 e6 e7 e8 e9 e11
  refine ⟨{ Wq := fun i j => (a3 (ix2 i j)).toReal,
            bq := fun j => (a4 (ix1 j)).toReal,
            Wk := fun i j => (a5 (ix2 i j)).toReal,
            bk := fun j => (a6 (ix1 j)).toReal,
            Wv := fun i j => (a7 (ix2 i j)).toReal,
            bv := fun j => (a8 (ix1 j)).toReal,
            Wo := fun i j => (a9 (ix2 i j)).toReal,
            bo := fun j => a10 (ix1 j),
            W1 := fun i j => (a11 (ix2 i j)).toReal,
            b1 := fun j => a12 (ix1 j),
            W2 := fun i j => a13 (ix2 i j),
            b2 := fun j => a14 (ix1 j),
            Wout := fun i j => a15 (ix2 i j),
            bout := fun j => a16 (ix1 j) },
    fun a b c => (a0 (ix3 a b c)).toReal, fun b t => if a1 (ix2 b t) = 1#32 then 1 else 0, ?_⟩
  exact { x := fun _ _ _ => real_of_all _ _ _ a0 _ h0 _,
          o := fun b t => mark_of _ (Host.reduce_andi_all _ _ _ _ _ h1 (ix2 b t)),
          Wq := fun _ _ => real_of_all _ _ _ a3 _ h3 _,
          bq := fun _ => real_of_all _ _ _ a4 _ h4 _,
          Wk := fun _ _ => real_of_all _ _ _ a5 _ h5 _,
          bk := fun _ => real_of_all _ _ _ a6 _ h6 _,
          Wv := fun _ _ => real_of_all _ _ _ a7 _ h7 _,
          bv := fun _ => real_of_all _ _ _ a8 _ h8 _,
          Wo := fun _ _ => real_of_all _ _ _ a9 _ h9 _,
          bo := fun _ => rfl,
          W1 := fun _ _ => real_of_all _ _ _ a11 _ h11 _,
          b1 := fun _ => rfl,
          W2 := fun _ _ => rfl,
          b2 := fun _ => rfl,
          Wout := fun _ _ => rfl,
          bout := fun _ => rfl }

end Cert.Pre_ranges
-- ==== Proof.lean ====
/- The proof of the certificate's claims. -/
module

public import proofs.«01_k».proof.Defs
public import proofs.«01_k».proof.Proof.Kernel.Run
public import proofs.«01_k».proof.Proof.KernelIdeal.Run
public import proofs.«01_k».proof.Proof.KernelIdeal.Result
public import proofs.«01_k».proof.Proof.Ranges
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- The kernel's frame. -/
theorem frameKernel : Cert.quiescent_Kernel (hKernel := Cert.Kernel.Gen.facts) := fun m g _ =>
  (θ_run Cert.Kernel.defs _ _).mono (fun _ h => ⟨fun c => by
    refine ⟨?_, ?_, ?_, ?_, ?_, ?_, ?_, ?_, ?_, ?_, ?_, ?_, ?_, ?_, ?_, ?_, ?_⟩ <;>
      exact Cert.Kernel.Run.arg_end m h.1 c _ (by decide), h.2⟩) (Cert.Kernel.Run.run m g)

/-- The idealized kernel's frame. -/
theorem frameKernelIdeal : Cert.quiescent_KernelIdeal (hKernelIdeal := Cert.KernelIdeal.Gen.facts) := fun m g _ =>
  (θ_run Cert.KernelIdeal.defs _ _).mono (fun _ h => ⟨fun c => by
    refine ⟨?_, ?_, ?_, ?_, ?_, ?_, ?_, ?_, ?_, ?_, ?_, ?_, ?_, ?_, ?_, ?_, ?_⟩ <;>
      exact Cert.KernelIdeal.Run.arg_end m h.1 c _ (by decide), h.2⟩) (Cert.KernelIdeal.Run.run m g)

/-- The reference's frame. -/
theorem frameReference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result is the reference's. -/
theorem value : Cert.algebraic_KernelIdeal_ReferenceIdeal_pre_ranges (hKernelIdeal := Cert.KernelIdeal.Gen.facts)
    (hReferenceIdeal := Cert.ReferenceIdeal.Gen.facts) (hPre_ranges := Cert.Pre_ranges.facts) := fun m g m' g' hm hargs =>
  ⟨fun c => Cert.KernelIdeal.Gen.V4 m (Cert.KernelIdeal.Run.outs m) c Cert.KernelIdeal.main_v0,
   (θ_run Cert.KernelIdeal.defs _ _).mono (fun _ h c => by
      refine ⟨Cert.KernelIdeal.Run.read_end m h.1 c _ (by decide), ?_, ?_, ?_, ?_, ?_, ?_, ?_, ?_, ?_, ?_, ?_, ?_, ?_, ?_, ?_, ?_, ?_⟩ <;>
        exact Cert.KernelIdeal.Run.arg_end m h.1 c _ (by decide)) (Cert.KernelIdeal.Run.run m g),
   (θ_run Cert.ReferenceIdeal.defs _ _).mono (fun r h c => by
      refine ⟨(h c).1.trans ?_, (h c).2⟩
      obtain ⟨P, x, o, H⟩ := @Cert.Pre_ranges.holds Cert.Pre_ranges.facts _ _ _ _ _ _ _ _ _ _ _ _ _ _ _ _ _ (hm c)
      obtain ⟨e0, e1, e2, e3, e4, e5, e6, e7, e8, e9, e10, e11, e12, e13, e14, e15, e16⟩ := hargs c
      refine (Cert.ReferenceIdeal.Read.val_main_v158_eq (F := Ideal) (fun b => m' (c, b))).trans ?_
      refine Eq.trans ?_ (Cert.KernelIdeal.Result.result_eq (m := m) (c := c) H).symm
      show Cert.ReferenceIdeal.Read.val_main_v158 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
      rw [e0, e1, e2, e3, e4, e5, e6, e7, e8, e9, e10, e11, e12, e13, e14, e15, e16])
    (Cert.ReferenceIdeal.Value.run (F := Ideal) m' g')⟩

theorem claim : Cert.Claim := ⟨Cert.Kernel.Gen.facts, Cert.KernelIdeal.Gen.facts, Cert.ReferenceIdeal.Gen.facts, Cert.Pre_ranges.facts,
  frameKernel, frameKernelIdeal, fun m g _ => frameKernelIdeal m g trivial, frameReference, fun m g _ => frameReference m g trivial,
  IdealRules.named_const.statement Cert.KernelIdeal.κ "mask" .f32 0xF149F2CA#32 ⊥ rfl, value⟩

end Cert.Proof

end
